-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S768x1024 : Shape := ⟨2, ![768, 1024]⟩
abbrev S192x1024 : Shape := ⟨2, ![192, 1024]⟩
abbrev S256x1024 : Shape := ⟨2, ![256, 1024]⟩
abbrev S64x1024 : Shape := ⟨2, ![64, 1024]⟩
abbrev S1024x1024 : Shape := ⟨2, ![1024, 1024]⟩
abbrev S64 : Shape := ⟨1, ![64]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S192x1024 : S_.BroadcastsInDim S192x1024 (![] : Fin 0 → Fin S192x1024.rank)
  reducesTo_S192x1024_S_d0_1 : S192x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x1024 .f32) (main_arg8 : FVec F S64 .f32) (main_arg9 : FVec F S64 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S64x1024 .f32 := Host.absf main_arg5
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1x2048x1024 .f32) (main_arg1 : FVec F S768x1024 .f32) (main_arg2 : FVec F S192x1024 .f32) (main_arg3 : FVec F S192x1024 .f32) (main_arg4 : FVec F S256x1024 .f32) (main_arg5 : FVec F S64x1024 .f32) (main_arg6 : FVec F S64x1024 .f32) (main_arg7 : FVec F S1024x1024 .f32) (main_arg8 : FVec F S64 .f32) (main_arg9 : FVec F S64 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S768x1024 .f32 := Host.absf main_arg1
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S192x1024 .f32 := Host.absf main_arg2
  let main_cst_2 : FVec F S_ .f32 := constant S_ .f32 0x7F800000#32
  let main_v10 : FVec F S192x1024 .f32 := broadcastInDim S192x1024 ![] bcast_S_S192x1024 main_cst_2
  let main_v11 : IVec S192x1024 1 := cmpf .olt main_v9 main_v10
  let main_c_3 : IVec S_ 1 := constantI S_ 1 1#1
  let main_v12 : IVec S_ 1 := (fun x v => Host.reduce IntOp.andi x v reducesTo_S192x1024_S_d0_1 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg5 main_arg8 main_arg9 main_v13 main_v16
-- ==== Kernel.lean ====
abbrev S1x2048x1024 : Shape := ⟨3, ![1, 2048, 1024]⟩
abbrev S768x1024 : Shape := ⟨2, ![768, 1024]⟩
abbrev S192x1024 : Shape := ⟨2, ![192, 1024]⟩
abbrev S256x1024 : Shape := ⟨2, ![256, 1024]⟩
abbrev S64x1024 : Shape := ⟨2, ![64, 1024]⟩
abbrev S1024x1024 : Shape := ⟨2, ![1024, 1024]⟩
abbrev S64 : Shape := ⟨1, ![64]⟩
abbrev S2048x1024 : Shape := ⟨2, ![2048, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x64 : Shape := ⟨2, ![1, 64]⟩
abbrev S24x2048x64 : Shape := ⟨3, ![24, 2048, 64]⟩
abbrev S256x64 : Shape := ⟨2, ![256, 64]⟩
abbrev S24x256x64 : Shape := ⟨3, ![24, 256, 64]⟩
abbrev S256x768 : Shape := ⟨2, ![256, 768]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S256x32 : Shape := ⟨2, ![256, 32]⟩
abbrev S1x256x64 : Shape := ⟨3, ![1, 256, 64]⟩
abbrev S1x2048 : Shape := ⟨2, ![1, 2048]⟩
abbrev S32x1 : Shape := ⟨2, ![32, 1]⟩
abbrev S32x2048 : Shape := ⟨2, ![32, 2048]⟩
abbrev S768 : Shape := ⟨1, ![768]⟩
abbrev S1x768 : Shape := ⟨2, ![1, 768]⟩
abbrev S1x256x1x768 : Shape := ⟨4, ![1, 256, 1, 768]⟩
abbrev S4x256x1x768 : Shape := ⟨4, ![4, 256, 1, 768]⟩
abbrev S1024x768 : Shape := ⟨2, ![1024, 768]⟩
abbrev S32x64 : Shape := ⟨2, ![32, 64]⟩
abbrev S1x2048x64 : Shape := ⟨3, ![1, 2048, 64]⟩
abbrev S1024x64 : Shape := ⟨2, ![1024, 64]⟩
abbrev S64x32 : Shape := ⟨2, ![64, 32]⟩
abbrev S1024x32 : Shape := ⟨2, ![1024, 32]⟩
abbrev S1024x1 : Shape := ⟨2, ![1024, 1]⟩
abbrev S1024 : Shape := ⟨1, ![1024]⟩
abbrev S1x256 : Shape := ⟨2, ![1, 256]⟩
abbrev S768x64 : Shape := ⟨2, ![768, 64]⟩
abbrev S64x768 : Shape := ⟨2, ![64, 768]⟩
abbrev S256x2048 : Shape := ⟨2, ![256, 2048]⟩
abbrev S64x2048 : Shape := ⟨2, ![64, 2048]⟩

abbrev nBuf : Space → Nat
  | .hbm => 89
  | .vmem => 23
  | .smem => 0
  | _ => 0

abbrev bufTy : (tb : Table) → Fin (tcTables nBuf tb) → BufTy
  | .hbm, ⟨0, _⟩ => ⟨S1x2048x1024, .f32⟩
  | .hbm, ⟨1, _⟩ => ⟨S768x1024, .f32⟩
  | .hbm, ⟨2, _⟩ => ⟨S192x1024, .f32⟩
  | .hbm, ⟨3, _⟩ => ⟨S192x1024, .f32⟩
  | .hbm, ⟨4, _⟩ => ⟨S256x1024, .f32⟩
  | .hbm, ⟨5, _⟩ => ⟨S64x1024, .f32⟩
  | .hbm, ⟨6, _⟩ => ⟨S64x1024, .f32⟩
  | .hbm, ⟨7, _⟩ => ⟨S1024x1024, .f32⟩
  | .hbm, ⟨8, _⟩ => ⟨S64, .f32⟩
  | .hbm, ⟨9, _⟩ => ⟨S64, .f32⟩
  | .hbm, ⟨10, _⟩ => ⟨S2048x1024, .f32⟩
  | .hbm, ⟨11, _⟩ => ⟨S2048, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048x1, .i32⟩
  | .hbm, ⟨30, _⟩ => ⟨S1x32, .f32⟩
  | .hbm, ⟨31, _⟩ => ⟨S2048x1, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S1x64, .f32⟩
  | .hbm, ⟨39, _⟩ => ⟨S1x64, .f32⟩
  | .hbm, ⟨40, _⟩ => ⟨S24x2048x64, .f32⟩
  | .hbm, ⟨41, _⟩ => ⟨S2048, .i32⟩
  | .hbm, ⟨42, _⟩ => ⟨S32, .i32⟩
  | .hbm, ⟨43, _⟩ => ⟨S1x2048, .i32⟩
  | .hbm, ⟨44, _⟩ => ⟨S_, .i32⟩
  | .hbm, ⟨45, _⟩ => ⟨S_, .i32⟩
  | .hbm, ⟨46, _⟩ => ⟨S1x2048, .i32⟩
  | .hbm, ⟨47, _⟩ => ⟨S1x2048, .i32⟩
  | .hbm, ⟨48, _⟩ => ⟨S1x2048, .i32⟩
  | .hbm, ⟨49, _⟩ => ⟨S_, .i32⟩
  | .hbm, ⟨50, _⟩ => ⟨S1x2048, .i32⟩
  | .hbm, ⟨51, _⟩ => ⟨S1x2048, .i1⟩
  | .hbm, ⟨52, _⟩ => ⟨S1x2048, .i32⟩
  | .hbm, ⟨53, _⟩ => ⟨S1x2048, .i32⟩
  | .hbm, ⟨54, _⟩ => ⟨S_, .i32⟩
  | .hbm, ⟨55, _⟩ => ⟨S1x2048, .i32⟩
  | .hbm, ⟨56, _⟩ => ⟨S1x2048, .i1⟩
  | .hbm, ⟨57, _⟩ => ⟨S1x2048, .i1⟩
  | .hbm, ⟨58, _⟩ => ⟨S_, .i32⟩
  | .hbm, ⟨59, _⟩ => ⟨S1x2048, .i32⟩
  | .hbm, ⟨60, _⟩ => ⟨S1x2048, .i32⟩
  | .hbm, ⟨61, _⟩ => ⟨S1x2048, .i32⟩
  | .hbm, ⟨62, _⟩ => ⟨S32x1, .i32⟩
  | .hbm, ⟨63, _⟩ => ⟨S32x2048, .i32⟩
  | .hbm, ⟨64, _⟩ => ⟨S32x2048, .i32⟩
  | .hbm, ⟨65, _⟩ => ⟨S32x2048, .i1⟩
  | .hbm, ⟨66, _⟩ => ⟨S32x2048, .f32⟩
  | .hbm, ⟨67, _⟩ => ⟨S256, .i32⟩
  | .hbm, ⟨68, _⟩ => ⟨S768, .i32⟩
  | .hbm, ⟨69, _⟩ => ⟨S1x768, .i32⟩
  | .hbm, ⟨70, _⟩ => ⟨S256x1, .i32⟩
  | .hbm, ⟨71, _⟩ => ⟨S256x768, .i32⟩
  | .hbm, ⟨72, _⟩ => ⟨S256x768, .i32⟩
  | .hbm, ⟨73, _⟩ => ⟨S256x768, .i1⟩
  | .hbm, ⟨74, _⟩ => ⟨S1x768, .i32⟩
  | .hbm, ⟨75, _⟩ => ⟨S256x1, .i32⟩
  | .hbm, ⟨76, _⟩ => ⟨S_, .i32⟩
  | .hbm, ⟨77, _⟩ => ⟨S256x1, .i32⟩
  | .hbm, ⟨78, _⟩ => ⟨S256x1, .i32⟩
  | .hbm, ⟨79, _⟩ => ⟨S256x768, .i32⟩
  | .hbm, ⟨80, _⟩ => ⟨S256x768, .i32⟩
  | .hbm, ⟨81, _⟩ => ⟨S256x768, .i1⟩
  | .hbm, ⟨82, _⟩ => ⟨S256x768, .i1⟩
  | .hbm, ⟨83, _⟩ => ⟨S256x768, .f32⟩
  | .hbm, ⟨84, _⟩ => ⟨S1x256x1x768, .f32⟩
  | .hbm, ⟨85, _⟩ => ⟨S4x256x1x768, .f32⟩
  | .hbm, ⟨86, _⟩ => ⟨S1024x768, .f32⟩
  | .hbm, ⟨87, _⟩ => ⟨S2048x1024, .f32⟩
  | .hbm, ⟨88, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S768x1024, .f32⟩
  | .local _ .vmem, ⟨3, _⟩ => ⟨S192x1024, .f32⟩
  | .local _ .vmem, ⟨4, _⟩ => ⟨S192x1024, .f32⟩
  | .local _ .vmem, ⟨5, _⟩ => ⟨S256x1024, .f32⟩
  | .local _ .vmem, ⟨6, _⟩ => ⟨S64x1024, .f32⟩
  | .local _ .vmem, ⟨7, _⟩ => ⟨S64x1024, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S1x64, .f32⟩
  | .local _ .vmem, ⟨13, _⟩ => ⟨S1x64, .f32⟩
  | .local _ .vmem, ⟨14, _⟩ => ⟨S24x256x64, .f32⟩
  | .local _ .vmem, ⟨15, _⟩ => ⟨S24x256x64, .f32⟩
  | .local _ .vmem, ⟨16, _⟩ => ⟨S24x2048x64, .f32⟩
  | .local _ .vmem, ⟨17, _⟩ => ⟨S32x2048, .f32⟩
  | .local _ .vmem, ⟨18, _⟩ => ⟨S1024x768, .f32⟩
  | .local _ .vmem, ⟨19, _⟩ => ⟨S1024x1024, .f32⟩
  | .local _ .vmem, ⟨20, _⟩ => ⟨S256x1024, .f32⟩
  | .local _ .vmem, ⟨21, _⟩ => ⟨S256x1024, .f32⟩
  | .local _ .vmem, ⟨22, _⟩ => ⟨S32x64, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_4 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S24x256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def k1_off1 (i : grid1.Coords) : Fin 3 → Nat :=
  let c18 : Index := 18#32
  let arg0 : BitVec 32 := BitVec.ofNat 32 (i 0).val
  let c256_i32 : BitVec 32 := 256#32
  let v0 : BitVec 32 := Scalar.muli arg0 c256_i32
  let v4 : Index := Scalar.indexCast v0
  let c0 : Index := 0#32
  ![18, v4.toNat, 0]
def k1_off2 (i : grid1.Coords) : Fin 3 → Nat :=
  let c19 : Index := 19#32
  let arg0 : BitVec 32 := BitVec.ofNat 32 (i 0).val
  let c256_i32 : BitVec 32 := 256#32
  let v0 : BitVec 32 := Scalar.muli arg0 c256_i32
  let v7 : Index := Scalar.indexCast v0
  let c0_1 : Index := 0#32
  ![19, v7.toNat, 0]
def k1_off3 (i : grid1.Coords) : Fin 3 → Nat :=
  let c20 : Index := 20#32
  let arg0 : BitVec 32 := BitVec.ofNat 32 (i 0).val
  let c256_i32 : BitVec 32 := 256#32
  let v0 : BitVec 32 := Scalar.muli arg0 c256_i32
  let v10 : Index := Scalar.indexCast v0
  let c0_2 : Index := 0#32
  ![20, v10.toNat, 0]
def k1_off4 (i : grid1.Coords) : Fin 3 → Nat :=
  let c21 : Index := 21#32
  let arg0 : BitVec 32 := BitVec.ofNat 32 (i 0).val
  let c256_i32 : BitVec 32 := 256#32
  let v0 : BitVec 32 := Scalar.muli arg0 c256_i32
  let v13 : Index := Scalar.indexCast v0
  let c0_3 : Index := 0#32
  ![21, v13.toNat, 0]
def k1_off5 (i : grid1.Coords) : Fin 3 → Nat :=
  let c0_62 : Index := 0#32
  let arg0 : BitVec 32 := BitVec.ofNat 32 (i 0).val
  let c256_i32 : BitVec 32 := 256#32
  let v0 : BitVec 32 := Scalar.muli arg0 c256_i32
  let v192 : Index := Scalar.indexCast v0
  let c0_63 : Index := 0#32
  ![0, v192.toNat, 0]
def k1_off6 (i : grid1.Coords) : Fin 3 → Nat :=
  let c1 : Index := 1#32
  let arg0 : BitVec 32 := BitVec.ofNat 32 (i 0).val
  let c256_i32 : BitVec 32 := 256#32
  let v0 : BitVec 32 := Scalar.muli arg0 c256_i32
  let v195 : Index := Scalar.indexCast v0
  let c0_64 : Index := 0#32
  ![1, v195.toNat, 0]
def k1_off7 (i : grid1.Coords) : Fin 3 → Nat :=
  let c2 : Index := 2#32
  let arg0 : BitVec 32 := BitVec.ofNat 32 (i 0).val
  let c256_i32 : BitVec 32 := 256#32
  let v0 : BitVec 32 := Scalar.muli arg0 c256_i32
  let v198 : Index := Scalar.indexCast v0
  let c0_65 : Index := 0#32
  ![2, v198.toNat, 0]
def k1_off8 (i : grid1.Coords) : Fin 3 → Nat :=
  let c3 : Index := 3#32
  let arg0 : BitVec 32 := BitVec.ofNat 32 (i 0).val
  let c256_i32 : BitVec 32 := 256#32
  let v0 : BitVec 32 := Scalar.muli arg0 c256_i32
  let v201 : Index := Scalar.indexCast v0
  let c0_66 : Index := 0#32
  ![3, v201.toNat, 0]
def k1_off9 (i : grid1.Coords) (c0_i32_51 : BitVec 32) : Fin 3 → Nat :=
  let c12 : Index := 12#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v205 : Index := Scalar.indexCast v183
  let c0_67 : Index := 0#32
  ![12, v205.toNat, 0]
def k1_off10 (i : grid1.Coords) (c0_i32_51 : BitVec 32) : Fin 3 → Nat :=
  let c15 : Index := 15#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v215 : Index := Scalar.indexCast v183
  let c0_72 : Index := 0#32
  ![15, v215.toNat, 0]
def k1_off11 (i : grid1.Coords) : Fin 3 → Nat :=
  let c4 : Index := 4#32
  let arg0 : BitVec 32 := BitVec.ofNat 32 (i 0).val
  let c256_i32 : BitVec 32 := 256#32
  let v0 : BitVec 32 := Scalar.muli arg0 c256_i32
  let v246 : Index := Scalar.indexCast v0
  let c0_82 : Index := 0#32
  ![4, v246.toNat, 0]
def k1_off12 (i : grid1.Coords) : Fin 3 → Nat :=
  let c5 : Index := 5#32
  let arg0 : BitVec 32 := BitVec.ofNat 32 (i 0).val
  let c256_i32 : BitVec 32 := 256#32
  let v0 : BitVec 32 := Scalar.muli arg0 c256_i32
  let v249 : Index := Scalar.indexCast v0
  let c0_83 : Index := 0#32
  ![5, v249.toNat, 0]
def k1_off13 (i : grid1.Coords) : Fin 3 → Nat :=
  let c6 : Index := 6#32
  let arg0 : BitVec 32 := BitVec.ofNat 32 (i 0).val
  let c256_i32 : BitVec 32 := 256#32
  let v0 : BitVec 32 := Scalar.muli arg0 c256_i32
  let v252 : Index := Scalar.indexCast v0
  let c0_84 : Index := 0#32
  ![6, v252.toNat, 0]
def k1_off14 (i : grid1.Coords) : Fin 3 → Nat :=
  let c7 : Index := 7#32
  let arg0 : BitVec 32 := BitVec.ofNat 32 (i 0).val
  let c256_i32 : BitVec 32 := 256#32
  let v0 : BitVec 32 := Scalar.muli arg0 c256_i32
  let v255 : Index := Scalar.indexCast v0
  let c0_85 : Index := 0#32
  ![7, v255.toNat, 0]
def k1_off15 (i : grid1.Coords) (c0_i32_51 : BitVec 32) : Fin 3 → Nat :=
  let c13 : Index := 13#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v259 : Index := Scalar.indexCast v183
  let c0_86 : Index := 0#32
  ![13, v259.toNat, 0]
def k1_off16 (i : grid1.Coords) (c0_i32_51 : BitVec 32) : Fin 3 → Nat :=
  let c16 : Index := 16#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v269 : Index := Scalar.indexCast v183
  let c0_91 : Index := 0#32
  ![16, v269.toNat, 0]
def k1_off17 (i : grid1.Coords) : Fin 3 → Nat :=
  let c8 : Index := 8#32
  let arg0 : BitVec 32 := BitVec.ofNat 32 (i 0).val
  let c256_i32 : BitVec 32 := 256#32
  let v0 : BitVec 32 := Scalar.muli arg0 c256_i32
  let v300 : Index := Scalar.indexCast v0
  let c0_101 : Index := 0#32
  ![8, v300.toNat, 0]
def k1_off18 (i : grid1.Coords) : Fin 3 → Nat :=
  let c9 : Index := 9#32
  let arg0 : BitVec 32 := BitVec.ofNat 32 (i 0).val
  let c256_i32 : BitVec 32 := 256#32
  let v0 : BitVec 32 := Scalar.muli arg0 c256_i32
  let v303 : Index := Scalar.indexCast v0
  let c0_102 : Index := 0#32
  ![9, v303.toNat, 0]
def k1_off19 (i : grid1.Coords) : Fin 3 → Nat :=
  let c10 : Index := 10#32
  let arg0 : BitVec 32 := BitVec.ofNat 32 (i 0).val
  let c256_i32 : BitVec 32 := 256#32
  let v0 : BitVec 32 := Scalar.muli arg0 c256_i32
  let v306 : Index := Scalar.indexCast v0
  let c0_103 : Index := 0#32
  ![10, v306.toNat, 0]
def k1_off20 (i : grid1.Coords) : Fin 3 → Nat :=
  let c11 : Index := 11#32
  let arg0 : BitVec 32 := BitVec.ofNat 32 (i 0).val
  let c256_i32 : BitVec 32 := 256#32
  let v0 : BitVec 32 := Scalar.muli arg0 c256_i32
  let v309 : Index := Scalar.indexCast v0
  let c0_104 : Index := 0#32
  ![11, v309.toNat, 0]
def k1_off21 (i : grid1.Coords) (c0_i32_51 : BitVec 32) : Fin 3 → Nat :=
  let c14 : Index := 14#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v313 : Index := Scalar.indexCast v183
  let c0_105 : Index := 0#32
  ![14, v313.toNat, 0]
def k1_off22 (i : grid1.Coords) (c0_i32_51 : BitVec 32) : Fin 3 → Nat :=
  let c17 : Index := 17#32
  let arg0 : BitVec 32 := BitVec.ofNat 32 (i 0).val
  let c2_i32_50 : BitVec 32 := 2#32
  let v180 : BitVec 32 := Scalar.subi arg0 c2_i32_50
  let v181 : BitVec 32 := Scalar.addi v180 c0_i32_51
  let c0_i32_52 : BitVec 32 := 0#32
  let v182 : BitVec 32 := Scalar.maxsi v181 c0_i32_52
  let c256_i32_53 : BitVec 32 := 256#32
  let v183 : BitVec 32 := Scalar.muli v182 c256_i32_53
  let v323 : Index := Scalar.indexCast v183
  let c0_110 : Index := 0#32
  ![17, v323.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S24x2048x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S768x1024 : Shape := ⟨2, ![768, 1024]⟩
abbrev S192x1024 : Shape := ⟨2, ![192, 1024]⟩
abbrev S256x1024 : Shape := ⟨2, ![256, 1024]⟩
abbrev S64x1024 : Shape := ⟨2, ![64, 1024]⟩
abbrev S1024x1024 : Shape := ⟨2, ![1024, 1024]⟩
abbrev S64 : Shape := ⟨1, ![64]⟩
abbrev S1024x768 : Shape := ⟨2, ![1024, 768]⟩
abbrev S1x2048x768 : Shape := ⟨3, ![1, 2048, 768]⟩
abbrev S1x2048x12x64 : Shape := ⟨4, ![1, 2048, 12, 64]⟩
abbrev S1x12x2048x64 : Shape := ⟨4, ![1, 12, 2048, 64]⟩
abbrev S1024x192 : Shape := ⟨2, ![1024, 192]⟩
abbrev S1x2048x192 : Shape := ⟨3, ![1, 2048, 192]⟩
abbrev S1x2048x3x64 : Shape := ⟨4, ![1, 2048, 3, 64]⟩
abbrev S1x3x2048x64 : Shape := ⟨4, ![1, 3, 2048, 64]⟩
abbrev S1024x256 : Shape := ⟨2, ![1024, 256]⟩
abbrev S1x2048x256 : Shape := ⟨3, ![1, 2048, 256]⟩
abbrev S1x2048x4x64 : Shape := ⟨4, ![1, 2048, 4, 64]⟩
abbrev S1x4x2048x64 : Shape := ⟨4, ![1, 4, 2048, 64]⟩
abbrev S1024x64 : Shape := ⟨2, ![1024, 64]⟩
abbrev S1x2048x64 : Shape := ⟨3, ![1, 2048, 64]⟩
abbrev S1x2048x1x64 : Shape := ⟨4, ![1, 2048, 1, 64]⟩
abbrev S1x1x2048x64 : Shape := ⟨4, ![1, 1, 2048, 64]⟩
abbrev S1x16x2048x64 : Shape := ⟨4, ![1, 16, 2048, 64]⟩
abbrev S_ : Shape := ⟨0, ![]⟩
abbrev S1x16x2048 : Shape := ⟨3, ![1, 16, 2048]⟩
abbrev S1x16x2048x1 : Shape := ⟨4, ![1, 16, 2048, 1]⟩
abbrev S1x1x1x64 : Shape := ⟨4, ![1, 1, 1, 64]⟩
abbrev S1x4x2048 : Shape := ⟨3, ![1, 4, 2048]⟩
abbrev S1x4x2048x1 : Shape := ⟨4, ![1, 4, 2048, 1]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x16x2048x32 : Shape := ⟨4, ![1, 16, 2048, 32]⟩
abbrev S1x4x2048x32 : Shape := ⟨4, ![1, 4, 2048, 32]⟩
abbrev S1x3x4x2048x64 : Shape := ⟨5, ![1, 3, 4, 2048, 64]⟩
abbrev S1x12x2048x2048 : Shape := ⟨4, ![1, 12, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x1x4x2048x64 : Shape := ⟨5, ![1, 1, 4, 2048, 64]⟩
abbrev S1x1x32x64x64 : Shape := ⟨5, ![1, 1, 32, 64, 64]⟩
abbrev S1x1x32x64 : Shape := ⟨4, ![1, 1, 32, 64]⟩
abbrev S1x1x4x32x64 : Shape := ⟨5, ![1, 1, 4, 32, 64]⟩
abbrev S1x4x32x64 : Shape := ⟨4, ![1, 4, 32, 64]⟩
abbrev S1x1x2048x32 : Shape := ⟨4, ![1, 1, 2048, 32]⟩
abbrev S1x4x2048x8 : Shape := ⟨4, ![1, 4, 2048, 8]⟩
abbrev S1x4x2048x32x64 : Shape := ⟨5, ![1, 4, 2048, 32, 64]⟩
abbrev S1x4x2048x2048 : Shape := ⟨4, ![1, 4, 2048, 2048]⟩
abbrev S1x2048x16x64 : Shape := ⟨4, ![1, 2048, 16, 64]⟩

abbrev nBuf : Space → Nat
  | .hbm => 272
  | .vmem => 0
  | .smem => 0
  | _ => 0

abbrev hbmTy0_0 (i : Nat) : BufTy := match i % 128 with
  | 0 => ⟨S1x2048x1024, .f32⟩
  | 1 => ⟨S768x1024, .f32⟩
  | 2 => ⟨S192x1024, .f32⟩
  | 3 => ⟨S192x1024, .f32⟩
  | 4 => ⟨S256x1024, .f32⟩
  | 5 => ⟨S64x1024, .f32⟩
  | 6 => ⟨S64x1024, .f32⟩
  | 7 => ⟨S1024x1024, .f32⟩
  | 8 => ⟨S64, .f32⟩
  | 9 => ⟨S64, .f32⟩
  | 10 => ⟨S1024x768, .f32⟩
  | 11 => ⟨S1x2048x768, .f32⟩
  | 12 => ⟨S1x2048x12x64, .f32⟩
  | 13 => ⟨S1x12x2048x64, .f32⟩
  | 14 => ⟨S1024x192, .f32⟩
  | 15 => ⟨S1x2048x192, .f32⟩
  | 16 => ⟨S1x2048x3x64, .f32⟩
  | 17 => ⟨S1x3x2048x64, .f32⟩
  | 18 => ⟨S1024x192, .f32⟩
  | 19 => ⟨S1x2048x192, .f32⟩
  | 20 => ⟨S1x2048x3x64, .f32⟩
  | 21 => ⟨S1x3x2048x64, .f32⟩
  | 22 => ⟨S1024x256, .f32⟩
  | 23 => ⟨S1x2048x256, .f32⟩
  | 24 => ⟨S1x2048x4x64, .f32⟩
  | 25 => ⟨S1x4x2048x64, .f32⟩
  | 26 => ⟨S1024x64, .f32⟩
  | 27 => ⟨S1x2048x64, .f32⟩
  | 28 => ⟨S1x2048x1x64, .f32⟩
  | 29 => ⟨S1x1x2048x64, .f32⟩
  | 30 => ⟨S1024x64, .f32⟩
  | 31 => ⟨S1x2048x64, .f32⟩
  | 32 => ⟨S1x2048x1x64, .f32⟩
  | 33 => ⟨S1x1x2048x64, .f32⟩
  | 34 => ⟨S1x16x2048x64, .f32⟩
  | 35 => ⟨S1x4x2048x64, .f32⟩
  | 36 => ⟨S1x16x2048x64, .f32⟩
  | 37 => ⟨S_, .f32⟩
  | 38 => ⟨S1x16x2048, .f32⟩
  | 39 => ⟨S1x16x2048x1, .f32⟩
  | 40 => ⟨S_, .f32⟩
  | 41 => ⟨S1x16x2048x1, .f32⟩
  | 42 => ⟨S1x16x2048x1, .f32⟩
  | 43 => ⟨S_, .f32⟩
  | 44 => ⟨S1x16x2048x1, .f32⟩
  | 45 => ⟨S1x16x2048x1, .f32⟩
  | 46 => ⟨S1x16x2048x1, .f32⟩
  | 47 => ⟨S1x16x2048x64, .f32⟩
  | 48 => ⟨S1x16x2048x64, .f32⟩
  | 49 => ⟨S1x1x1x64, .f32⟩
  | 50 => ⟨S1x16x2048x64, .f32⟩
  | 51 => ⟨S1x16x2048x64, .f32⟩
  | 52 => ⟨S1x4x2048x64, .f32⟩
  | 53 => ⟨S_, .f32⟩
  | 54 => ⟨S1x4x2048, .f32⟩
  | 55 => ⟨S1x4x2048x1, .f32⟩
  | 56 => ⟨S_, .f32⟩
  | 57 => ⟨S1x4x2048x1, .f32⟩
  | 58 => ⟨S1x4x2048x1, .f32⟩
  | 59 => ⟨S_, .f32⟩
  | 60 => ⟨S1x4x2048x1, .f32⟩
  | 61 => ⟨S1x4x2048x1, .f32⟩
  | 62 => ⟨S1x4x2048x1, .f32⟩
  | 63 => ⟨S1x4x2048x64, .f32⟩
  | 64 => ⟨S1x4x2048x64, .f32⟩
  | 65 => ⟨S1x1x1x64, .f32⟩
  | 66 => ⟨S1x4x2048x64, .f32⟩
  | 67 => ⟨S1x4x2048x64, .f32⟩
  | 68 => ⟨S2048, .i32⟩
  | 69 => ⟨S32, .i32⟩
  | 70 => ⟨S_, .i32⟩
  | 71 => ⟨S32, .i32⟩
  | 72 => ⟨S32, .i32⟩
  | 73 => ⟨S_, .i32⟩
  | 74 => ⟨S32, .i32⟩
  | 75 => ⟨S32, .i32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S2048x1, .i32⟩
  | 87 => ⟨S1x32, .f32⟩
  | 88 => ⟨S2048x1, .f32⟩
  | 89 => ⟨S2048x32, .f32⟩
  | 90 => ⟨S2048x32, .f32⟩
  | 91 => ⟨S2048x32, .f32⟩
  | 92 => ⟨S2048x64, .f32⟩
  | 93 => ⟨S2048x64, .f32⟩
  | 94 => ⟨S1x1x2048x64, .f32⟩
  | 95 => ⟨S2048x64, .f32⟩
  | 96 => ⟨S1x1x2048x64, .f32⟩
  | 97 => ⟨S1x16x2048x64, .f32⟩
  | 98 => ⟨S1x16x2048x64, .f32⟩
  | 99 => ⟨S1x16x2048x32, .f32⟩
  | 100 => ⟨S1x16x2048x32, .f32⟩
  | 101 => ⟨S1x16x2048x32, .f32⟩
  | 102 => ⟨S1x16x2048x64, .f32⟩
  | 103 => ⟨S1x16x2048x64, .f32⟩
  | 104 => ⟨S1x16x2048x64, .f32⟩
  | 105 => ⟨S1x16x2048x64, .f32⟩
  | 106 => ⟨S1x4x2048x64, .f32⟩
  | 107 => ⟨S1x4x2048x64, .f32⟩
  | 108 => ⟨S1x4x2048x32, .f32⟩
  | 109 => ⟨S1x4x2048x32, .f32⟩
  | 110 => ⟨S1x4x2048x32, .f32⟩
  | 111 => ⟨S1x4x2048x64, .f32⟩
  | 112 => ⟨S1x4x2048x64, .f32⟩
  | 113 => ⟨S1x4x2048x64, .f32⟩
  | 114 => ⟨S1x4x2048x64, .f32⟩
  | 115 => ⟨S2048, .i32⟩
  | 116 => ⟨S2048, .i32⟩
  | 117 => ⟨S1x12x2048x64, .f32⟩
  | 118 => ⟨S1x3x2048x64, .f32⟩
  | 119 => ⟨S1x3x4x2048x64, .f32⟩
  | 120 => ⟨S1x12x2048x64, .f32⟩
  | 121 => ⟨S1x3x4x2048x64, .f32⟩
  | 122 => ⟨S1x12x2048x64, .f32⟩
  | 123 => ⟨S1x12x2048x2048, .f32⟩
  | 124 => ⟨S_, .f32⟩
  | 125 => ⟨S1x12x2048x2048, .f32⟩
  | 126 => ⟨S1x12x2048x2048, .f32⟩
  | 127 => ⟨S1x2048, .i32⟩
  | _ => ⟨S1x2048x1024, .f32⟩

abbrev hbmTy0_1 (i : Nat) : BufTy := match i % 128 with
  | 0 => ⟨S2048x1, .i32⟩
  | 1 => ⟨S2048x2048, .i32⟩
  | 2 => ⟨S2048x2048, .i32⟩
  | 3 => ⟨S2048x2048, .i1⟩
  | 4 => ⟨S2048x1, .i32⟩
  | 5 => ⟨S1x2048, .i32⟩
  | 6 => ⟨S2048x2048, .i32⟩
  | 7 => ⟨S2048x2048, .i32⟩
  | 8 => ⟨S2048x2048, .i32⟩
  | 9 => ⟨S_, .i32⟩
  | 10 => ⟨S2048x2048, .i32⟩
  | 11 => ⟨S2048x2048, .i1⟩
  | 12 => ⟨S2048x2048, .i1⟩
  | 13 => ⟨S1x1x2048x2048, .i1⟩
  | 14 => ⟨S_, .f32⟩
  | 15 => ⟨S_, .f32⟩
  | 16 => ⟨S1x12x2048x2048, .i1⟩
  | 17 => ⟨S1x12x2048x2048, .f32⟩
  | 18 => ⟨S1x12x2048x2048, .f32⟩
  | 19 => ⟨S_, .f32⟩
  | 20 => ⟨S1x12x2048, .f32⟩
  | 21 => ⟨S_, .f32⟩
  | 22 => ⟨S1x12x2048, .f32⟩
  | 23 => ⟨S1x12x2048, .f32⟩
  | 24 => ⟨S1x12x2048x1, .f32⟩
  | 25 => ⟨S1x12x2048x2048, .f32⟩
  | 26 => ⟨S1x12x2048x2048, .f32⟩
  | 27 => ⟨S1x12x2048x2048, .f32⟩
  | 28 => ⟨S_, .f32⟩
  | 29 => ⟨S1x12x2048, .f32⟩
  | 30 => ⟨S1x12x2048x1, .f32⟩
  | 31 => ⟨S1x12x2048x2048, .f32⟩
  | 32 => ⟨S1x12x2048x2048, .f32⟩
  | 33 => ⟨S1x12x2048x64, .f32⟩
  | 34 => ⟨S1x4x2048x64, .f32⟩
  | 35 => ⟨S1x1x2048x64, .f32⟩
  | 36 => ⟨S1x1x4x2048x64, .f32⟩
  | 37 => ⟨S1x4x2048x64, .f32⟩
  | 38 => ⟨S1x1x4x2048x64, .f32⟩
  | 39 => ⟨S1x4x2048x64, .f32⟩
  | 40 => ⟨S1x1x2048x64, .f32⟩
  | 41 => ⟨S1x1x32x64x64, .f32⟩
  | 42 => ⟨S_, .f32⟩
  | 43 => ⟨S1x1x32x64, .f32⟩
  | 44 => ⟨S_, .f32⟩
  | 45 => ⟨S1x1x32x64, .f32⟩
  | 46 => ⟨S1x1x32x64, .f32⟩
  | 47 => ⟨S1x1x4x32x64, .f32⟩
  | 48 => ⟨S1x4x32x64, .f32⟩
  | 49 => ⟨S1x4x2048x32, .f32⟩
  | 50 => ⟨S_, .f32⟩
  | 51 => ⟨S1x4x2048x32, .f32⟩
  | 52 => ⟨S1x4x2048x32, .f32⟩
  | 53 => ⟨S32, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S_, .i32⟩
  | 62 => ⟨S2048, .i32⟩
  | 63 => ⟨S2048, .i32⟩
  | 64 => ⟨S2048, .i32⟩
  | 65 => ⟨S_, .i32⟩
  | 66 => ⟨S2048, .i32⟩
  | 67 => ⟨S2048, .i1⟩
  | 68 => ⟨S2048, .i32⟩
  | 69 => ⟨S2048, .i32⟩
  | 70 => ⟨S_, .i32⟩
  | 71 => ⟨S2048, .i32⟩
  | 72 => ⟨S2048, .i1⟩
  | 73 => ⟨S2048, .i1⟩
  | 74 => ⟨S_, .i32⟩
  | 75 => ⟨S2048, .i32⟩
  | 76 => ⟨S2048, .i32⟩
  | 77 => ⟨S2048, .i32⟩
  | 78 => ⟨S1x32, .i32⟩
  | 79 => ⟨S2048x1, .i32⟩
  | 80 => ⟨S2048x32, .i32⟩
  | 81 => ⟨S2048x32, .i32⟩
  | 82 => ⟨S2048x32, .i1⟩
  | 83 => ⟨S1x1x2048x32, .i1⟩
  | 84 => ⟨S_, .f32⟩
  | 85 => ⟨S_, .f32⟩
  | 86 => ⟨S1x4x2048x32, .i1⟩
  | 87 => ⟨S1x4x2048x32, .f32⟩
  | 88 => ⟨S1x4x2048x32, .f32⟩
  | 89 => ⟨S1x4x2048x8, .f32⟩
  | 90 => ⟨S1x4x2048x8, .i32⟩
  | 91 => ⟨S1x4x2048x1, .f32⟩
  | 92 => ⟨S1x4x2048x32, .f32⟩
  | 93 => ⟨S1x4x2048x32, .i1⟩
  | 94 => ⟨S1x1x2048x32, .i1⟩
  | 95 => ⟨S1x4x2048x32, .i1⟩
  | 96 => ⟨S1x4x2048x32, .i1⟩
  | 97 => ⟨S1x4x2048x32x64, .i1⟩
  | 98 => ⟨S1x4x2048x2048, .i1⟩
  | 99 => ⟨S1x2048, .i32⟩
  | 100 => ⟨S2048x1, .i32⟩
  | 101 => ⟨S2048x2048, .i32⟩
  | 102 => ⟨S2048x2048, .i32⟩
  | 103 => ⟨S2048x2048, .i1⟩
  | 104 => ⟨S2048x1, .i32⟩
  | 105 => ⟨S1x2048, .i32⟩
  | 106 => ⟨S2048x2048, .i32⟩
  | 107 => ⟨S2048x2048, .i32⟩
  | 108 => ⟨S2048x2048, .i32⟩
  | 109 => ⟨S_, .i32⟩
  | 110 => ⟨S2048x2048, .i32⟩
  | 111 => ⟨S2048x2048, .i1⟩
  | 112 => ⟨S2048x2048, .i1⟩
  | 113 => ⟨S1x1x2048x2048, .i1⟩
  | 114 => ⟨S1x4x2048x2048, .i1⟩
  | 115 => ⟨S1x4x2048x2048, .i1⟩
  | 116 => ⟨S1x4x2048x2048, .f32⟩
  | 117 => ⟨S_, .f32⟩
  | 118 => ⟨S1x4x2048x2048, .f32⟩
  | 119 => ⟨S1x4x2048x2048, .f32⟩
  | 120 => ⟨S_, .f32⟩
  | 121 => ⟨S_, .f32⟩
  | 122 => ⟨S1x4x2048x2048, .f32⟩
  | 123 => ⟨S1x4x2048x2048, .f32⟩
  | 124 => ⟨S_, .f32⟩
  | 125 => ⟨S1x4x2048, .f32⟩
  | 126 => ⟨S_, .f32⟩
  | 127 => ⟨S1x4x2048, .f32⟩
  | _ => ⟨S1x2048x1024, .f32⟩

abbrev hbmTy0_2 (i : Nat) : BufTy := match i % 128 with
  | 0 => ⟨S1x4x2048, .f32⟩
  | 1 => ⟨S1x4x2048x1, .f32⟩
  | 2 => ⟨S1x4x2048x2048, .f32⟩
  | 3 => ⟨S1x4x2048x2048, .f32⟩
  | 4 => ⟨S1x4x2048x2048, .f32⟩
  | 5 => ⟨S_, .f32⟩
  | 6 => ⟨S1x4x2048, .f32⟩
  | 7 => ⟨S1x4x2048x1, .f32⟩
  | 8 => ⟨S1x4x2048x2048, .f32⟩
  | 9 => ⟨S1x4x2048x2048, .f32⟩
  | 10 => ⟨S1x4x2048x64, .f32⟩
  | 11 => ⟨S1x16x2048x64, .f32⟩
  | 12 => ⟨S1x2048x16x64, .f32⟩
  | 13 => ⟨S1x2048x1024, .f32⟩
  | 14 => ⟨S1024x1024, .f32⟩
  | 15 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_v54 : Ref sig .tc := ⟨.hbm, 71, rfl⟩
abbrev main_v55 : Ref sig .tc := ⟨.hbm, 72, rfl⟩
abbrev main_c_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_9 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_c_10 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_11 : Ref sig .tc := ⟨.hbm, 142, rfl⟩
abbrev main_call0_v0 : Ref sig .tc := ⟨.hbm, 143, rfl⟩
abbrev main_call0_v1 : Ref sig .tc := ⟨.hbm, 144, rfl⟩
abbrev main_call0_v2 : Ref sig .tc := ⟨.hbm, 145, rfl⟩
abbrev main_v119 : Ref sig .tc := ⟨.hbm, 146, rfl⟩
abbrev main_cst_12 : Ref sig .tc := ⟨.hbm, 147, rfl⟩
abbrev main_v120 : Ref sig .tc := ⟨.hbm, 148, rfl⟩
abbrev main_cst_13 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_14 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_15 : Ref sig .tc := ⟨.hbm, 170, rfl⟩
abbrev main_v140 : Ref sig .tc := ⟨.hbm, 171, rfl⟩
abbrev main_cst_16 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_17 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_c_18 : Ref sig .tc := ⟨.hbm, 182, rfl⟩
abbrev main_v149 : Ref sig .tc := ⟨.hbm, 183, rfl⟩
abbrev main_v150 : Ref sig .tc := ⟨.hbm, 184, rfl⟩
abbrev main_c_19 : Ref sig .tc := ⟨.hbm, 185, rfl⟩
abbrev main_v151 : Ref sig .tc := ⟨.hbm, 186, rfl⟩
abbrev main_v152 : Ref sig .tc := ⟨.hbm, 187, rfl⟩
abbrev main_c_20 : Ref sig .tc := ⟨.hbm, 188, rfl⟩
abbrev main_call1_v0 : Ref sig .tc := ⟨.hbm, 189, rfl⟩
abbrev main_call1_v1 : Ref sig .tc := ⟨.hbm, 190, rfl⟩
abbrev main_call1_v2 : Ref sig .tc := ⟨.hbm, 191, rfl⟩
abbrev main_call1_v3 : Ref sig .tc := ⟨.hbm, 192, rfl⟩
abbrev main_call1_v4 : Ref sig .tc := ⟨.hbm, 193, rfl⟩
abbrev main_call1_v5 : Ref sig .tc := ⟨.hbm, 194, rfl⟩
abbrev main_call1_v6 : Ref sig .tc := ⟨.hbm, 195, rfl⟩
abbrev main_call1_v7 : Ref sig .tc := ⟨.hbm, 196, rfl⟩
abbrev main_call1_v8 : Ref sig .tc := ⟨.hbm, 197, rfl⟩
abbrev main_call1_c : Ref sig .tc := ⟨.hbm, 198, rfl⟩
abbrev main_call1_v9 : Ref sig .tc := ⟨.hbm, 199, rfl⟩
abbrev main_call1_v10 : Ref sig .tc := ⟨.hbm, 200, rfl⟩
abbrev main_call1_v11 : Ref sig .tc := ⟨.hbm, 201, rfl⟩
abbrev main_call1_c_0 : Ref sig .tc := ⟨.hbm, 202, rfl⟩
abbrev main_call1_v12 : Ref sig .tc := ⟨.hbm, 203, rfl⟩
abbrev main_call1_v13 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_21 : Ref sig .tc := ⟨.hbm, 212, rfl⟩
abbrev main_call2_v0 : Ref sig .tc := ⟨.hbm, 213, rfl⟩
abbrev main_call2_v1 : Ref sig .tc := ⟨.hbm, 214, rfl⟩
abbrev main_call2_v2 : Ref sig .tc := ⟨.hbm, 215, rfl⟩
abbrev main_v160 : Ref sig .tc := ⟨.hbm, 216, rfl⟩
abbrev main_values : Ref sig .tc := ⟨.hbm, 217, rfl⟩
abbrev main_indices : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_22 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_23 : Ref sig .tc := ⟨.hbm, 245, rfl⟩
abbrev main_v186 : Ref sig .tc := ⟨.hbm, 246, rfl⟩
abbrev main_v187 : Ref sig .tc := ⟨.hbm, 247, rfl⟩
abbrev main_cst_24 : Ref sig .tc := ⟨.hbm, 248, rfl⟩
abbrev main_call3_v0 : Ref sig .tc := ⟨.hbm, 249, rfl⟩
abbrev main_call3_v1 : Ref sig .tc := ⟨.hbm, 250, rfl⟩
abbrev main_v188 : Ref sig .tc := ⟨.hbm, 251, rfl⟩
abbrev main_cst_25 : Ref sig .tc := ⟨.hbm, 252, rfl⟩
abbrev main_v189 : Ref sig .tc := ⟨.hbm, 253, rfl⟩
abbrev main_cst_26 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_27 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩

abbrev nD : Nat := 1
abbrev τ : Topo := Topo.v7x

variable {F : FTy → Type} [FloatOps F]
-- ==== Proof.Ki.Proj.lean ====
/- The projection call: its body at one grid point, and the data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S768x1024 := Rect.unit (s := S768x1024) ![0, 0] S768x1024.size inb_S768x1024_S768x1024_0_0
abbrev r0_2 : Rect S192x1024 := Rect.unit (s := S192x1024) ![0, 0] S192x1024.size inb_S192x1024_S192x1024_0_0
abbrev r0_3 : Rect S64x1024 := Rect.unit (s := S64x1024) ![0, 0] S64x1024.size inb_S64x1024_S64x1024_0_0
abbrev r0_4 : Rect S256x64 := Rect.unit (s := S256x64) ![0, 0] S256x64.size inb_S256x64_S256x64_0_0
abbrev r0_5 : Rect S1x64 := Rect.unit (s := S1x64) ![0, 0] S1x64.size inb_S1x64_S1x64_0_0
abbrev r0_6 : Rect S24x256x64 := Rect.unit (s := S24x256x64) ![0, 0, 0] S1x256x64.size inb_S24x256x64_S1x256x64_0_0_0
abbrev r0_7 : Rect S24x256x64 := Rect.unit (s := S24x256x64) ![1, 0, 0] S1x256x64.size inb_S24x256x64_S1x256x64_1_0_0
abbrev r0_8 : Rect S24x256x64 := Rect.unit (s := S24x256x64) ![2, 0, 0] S1x256x64.size inb_S24x256x64_S1x256x64_2_0_0
abbrev r0_9 : Rect S24x256x64 := Rect.unit (s := S24x256x64) ![3, 0, 0] S1x256x64.size inb_S24x256x64_S1x256x64_3_0_0
abbrev r0_10 : Rect S24x256x64 := Rect.unit (s := S24x256x64) ![4, 0, 0] S1x256x64.size inb_S24x256x64_S1x256x64_4_0_0
abbrev r0_11 : Rect S24x256x64 := Rect.unit (s := S24x256x64) ![5, 0, 0] S1x256x64.size inb_S24x256x64_S1x256x64_5_0_0
abbrev r0_12 : Rect S24x256x64 := Rect.unit (s := S24x256x64) ![6, 0, 0] S1x256x64.size inb_S24x256x64_S1x256x64_6_0_0
abbrev r0_13 : Rect S24x256x64 := Rect.unit (s := S24x256x64) ![7, 0, 0] S1x256x64.size inb_S24x256x64_S1x256x64_7_0_0
abbrev r0_14 : Rect S24x256x64 := Rect.unit (s := S24x256x64) ![8, 0, 0] S1x256x64.size inb_S24x256x64_S1x256x64_8_0_0
abbrev r0_15 : Rect S24x256x64 := Rect.unit (s := S24x256x64) ![9, 0, 0] S1x256x64.size inb_S24x256x64_S1x256x64_9_0_0
abbrev r0_16 : Rect S24x256x64 := Rect.unit (s := S24x256x64) ![10, 0, 0] S1x256x64.size inb_S24x256x64_S1x256x64_10_0_0
abbrev r0_17 : Rect S24x256x64 := Rect.unit (s := S24x256x64) ![11, 0, 0] S1x256x64.size inb_S24x256x64_S1x256x64_11_0_0
abbrev r0_18 : Rect S24x256x64 := Rect.unit (s := S24x256x64) ![12, 0, 0] S1x256x64.size inb_S24x256x64_S1x256x64_12_0_0
abbrev r0_19 : Rect S24x256x64 := Rect.unit (s := S24x256x64) ![13, 0, 0] S1x256x64.size inb_S24x256x64_S1x256x64_13_0_0
abbrev r0_20 : Rect S24x256x64 := Rect.unit (s := S24x256x64) ![14, 0, 0] S1x256x64.size inb_S24x256x64_S1x256x64_14_0_0
abbrev r0_21 : Rect S24x256x64 := Rect.unit (s := S24x256x64) ![15, 0, 0] S1x256x64.size inb_S24x256x64_S1x256x64_15_0_0
abbrev r0_22 : Rect S24x256x64 := Rect.unit (s := S24x256x64) ![16, 0, 0] S1x256x64.size inb_S24x256x64_S1x256x64_16_0_0
abbrev r0_23 : Rect S24x256x64 := Rect.unit (s := S24x256x64) ![17, 0, 0] S1x256x64.size inb_S24x256x64_S1x256x64_17_0_0
abbrev r0_24 : Rect S24x256x64 := Rect.unit (s := S24x256x64) ![18, 0, 0] S1x256x64.size inb_S24x256x64_S1x256x64_18_0_0
abbrev r0_25 : Rect S24x256x64 := Rect.unit (s := S24x256x64) ![19, 0, 0] S1x256x64.size inb_S24x256x64_S1x256x64_19_0_0
abbrev r0_26 : Rect S24x256x64 := Rect.unit (s := S24x256x64) ![20, 0, 0] S1x256x64.size inb_S24x256x64_S1x256x64_20_0_0
abbrev r0_27 : Rect S24x256x64 := Rect.unit (s := S24x256x64) ![21, 0, 0] S1x256x64.size inb_S24x256x64_S1x256x64_21_0_0
abbrev r0_28 : Rect S24x256x64 := Rect.unit (s := S24x256x64) ![22, 0, 0] S1x256x64.size inb_S24x256x64_S1x256x64_22_0_0
abbrev r0_29 : Rect S24x256x64 := Rect.unit (s := S24x256x64) ![23, 0, 0] S1x256x64.size inb_S24x256x64_S1x256x64_23_0_0

/-! ## What the body leaves in each output window's buffer -/

/-! ### Values of the body that the stores' payloads, spelt out, would write more than once

    Each is a vector the body binds (often a part call's result), stated over the input windows' blocks and
    numbered on from the skeleton's payload functions (`k0_pay70` …, after `k0_pay69`), so that
    `out0_W` and the values after it name it instead of spelling it out(
    with them, `unfold_payloads` opens them with the payloads); the comment after each is the printed function's
    name for the value (a count appended where that name is bound again). -/

def k0_pay70 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay4 (View.ld x0 r0_0) (View.ld x1 r0_1) -- `v5`
def k0_pay71 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay8 (View.ld x0 r0_0) (View.ld x1 r0_1) -- `v9`
def k0_pay72 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay10 (View.ld x0 r0_0) (View.ld x1 r0_1) -- `v11`
def k0_pay73 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay12 (View.ld x0 r0_0) (View.ld x1 r0_1) -- `v13`
def k0_pay74 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay14 (View.ld x0 r0_0) (View.ld x1 r0_1) -- `v15`
def k0_pay75 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay17 (View.ld x0 r0_0) (View.ld x2 r0_2) -- `v19`
def k0_pay76 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay25 (View.ld x0 r0_0) (View.ld x4 r0_0) -- `v29`
def k0_pay77 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay27 (View.ld x0 r0_0) (View.ld x4 r0_0) -- `v31`
def k0_pay78 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay30 (View.ld x7 r0_4) -- `v37`
def k0_pay79 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S256x64 .f32 :=
  k0_pay31 (View.ld x8 r0_4) -- `v39`
def k0_pay80 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S1x64 .f32 :=
  k0_pay32 (View.ld x9 r0_5) -- `v41`
def k0_pay81 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : FVec F S1x64 .f32 :=
  k0_pay33 (View.ld x10 r0_5) -- `v43`

/-- Window 11's staging buffer after the body, from the input windows' blocks: its 24 stores as pieces, LAST
    FIRST (Lib/Pipeline/FrameBody.lean `View.canon`; the payloads are the skeleton's and the values stated above). -/
def out0_11 (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) : Vec F S24x256x64 .f32 :=
  View.canon [⟨r0_29, k0_pay69 (k0_pay29 (View.ld x0 r0_0) (View.ld x6 r0_3))⟩,
    ⟨r0_28, k0_pay68 (k0_pay28 (View.ld x0 r0_0) (View.ld x5 r0_3)) (k0_pay78 x0 x1 x2 x3 x4 x5 x6 x7 x8 x9 x10) (k0_pay79 x0 x1 x2 x3 x4 x5 x6 x7 x8 x9 x10) (k0_pay81 x0 x1 x2 x3 x4 x5 x6 x7 x8 x9 x10)⟩,
    ⟨r0_27, k0_pay67 (k0_pay77 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay66 (k0_pay77 x0 x1 x2 x3 x4 x5 x6 x7 x8 x9 x10)) (Scalar.ofBits .f32 0x358637BD#32)⟩,
    ⟨r0_26, k0_pay65 (k0_pay26 (View.ld x0 r0_0) (View.ld x4 r0_0)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_25, k0_pay64 (k0_pay76 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay63 (k0_pay76 x0 x1 x2 x3 x4 x5 x6 x7 x8 x9 x10))⟩,
    ⟨r0_24, k0_pay62 (k0_pay24 (View.ld x0 r0_0) (View.ld x4 r0_0)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_23, k0_pay61 (k0_pay22 (View.ld x0 r0_0) (View.ld x3 r0_2))⟩,
    ⟨r0_22, k0_pay60 (k0_pay21 (View.ld x0 r0_0) (View.ld x3 r0_2))⟩,
    ⟨r0_21, k0_pay59 (k0_pay20 (View.ld x0 r0_0) (View.ld x3 r0_2))⟩,
    ⟨r0_20, k0_pay58 (k0_pay18 (View.ld x0 r0_0) (View.ld x2 r0_2)) (k0_pay78 x0 x1 x2 x3 x4 x5 x6 x7 x8 x9 x10) (k0_pay79 x0 x1 x2 x3 x4 x5 x6 x7 x8 x9 x10) (k0_pay81 x0 x1 x2 x3 x4 x5 x6 x7 x8 x9 x10)⟩,
    ⟨r0_19, k0_pay57 (k0_pay75 x0 x1 x2 x3 x4 x5 x6 x7 x8 x9 x10) (k0_pay78 x0 x1 x2 x3 x4 x5 x6 x7 x8 x9 x10) (k0_pay79 x0 x1 x2 x3 x4 x5 x6 x7 x8 x9 x10) (k0_pay81 x0 x1 x2 x3 x4 x5 x6 x7 x8 x9 x10) (k0_pay56 (k0_pay75 x0 x1 x2 x3 x4 x5 x6 x7 x8 x9 x10))⟩,
    ⟨r0_18, k0_pay55 (k0_pay16 (View.ld x0 r0_0) (View.ld x2 r0_2)) (k0_pay78 x0 x1 x2 x3 x4 x5 x6 x7 x8 x9 x10) (k0_pay79 x0 x1 x2 x3 x4 x5 x6 x7 x8 x9 x10) (k0_pay81 x0 x1 x2 x3 x4 x5 x6 x7 x8 x9 x10)⟩,
    ⟨r0_17, k0_pay54 (k0_pay74 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay52 (k0_pay74 x0 x1 x2 x3 x4 x5 x6 x7 x8 x9 x10)) (k0_pay53 (F := F))⟩,
    ⟨r0_16, k0_pay51 (k0_pay13 (View.ld x0 r0_0) (View.ld x1 r0_1)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_15, k0_pay50 (k0_pay73 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay49 (k0_pay73 x0 x1 x2 x3 x4 x5 x6 x7 x8 x9 x10)) (Scalar.ofBits .f32 0x358637BD#32)⟩,
    ⟨r0_14, k0_pay48 (k0_pay11 (View.ld x0 r0_0) (View.ld x1 r0_1)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_13, k0_pay47 (k0_pay72 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay46 (k0_pay72 x0 x1 x2 x3 x4 x5 x6 x7 x8 x9 x10))⟩,
    ⟨r0_12, k0_pay45 (k0_pay9 (View.ld x0 r0_0) (View.ld x1 r0_1)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_11, k0_pay44 (k0_pay71 x0 x1 x2 x3 x4 x5 x6 x7 x8 x9 x10) (k0_pay78 x0 x1 x2 x3 x4 x5 x6 x7 x8 x9 x10) (k0_pay79 x0 x1 x2 x3 x4 x5 x6 x7 x8 x9 x10) (k0_pay80 x0 x1 x2 x3 x4 x5 x6 x7 x8 x9 x10) (k0_pay43 (k0_pay71 x0 x1 x2 x3 x4 x5 x6 x7 x8 x9 x10))⟩,
    ⟨r0_10, k0_pay42 (k0_pay7 (View.ld x0 r0_0) (View.ld x1 r0_1)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_9, k0_pay41 (k0_pay78 x0 x1 x2 x3 x4 x5 x6 x7 x8 x9 x10) (k0_pay79 x0 x1 x2 x3 x4 x5 x6 x7 x8 x9 x10) (k0_pay39 (k0_pay6 (View.ld x0 r0_0) (View.ld x1 r0_1))) (k0_pay40 (k0_pay80 x0 x1 x2 x3 x4 x5 x6 x7 x8 x9 x10))⟩,
    ⟨r0_8, k0_pay38 (k0_pay5 (View.ld x0 r0_0) (View.ld x1 r0_1)) (k0_pay78 x0 x1 x2 x3 x4 x5 x6 x7 x8 x9 x10) (k0_pay79 x0 x1 x2 x3 x4 x5 x6 x7 x8 x9 x10) (k0_pay80 x0 x1 x2 x3 x4 x5 x6 x7 x8 x9 x10)⟩,
    ⟨r0_7, k0_pay37 (k0_pay79 x0 x1 x2 x3 x4 x5 x6 x7 x8 x9 x10) (k0_pay35 (k0_pay70 x0 x1 x2 x3 x4 x5 x6 x7 x8 x9 x10) (View.ld x9 r0_5)) (k0_pay36 (k0_pay70 x0 x1 x2 x3 x4 x5 x6 x7 x8 x9 x10) (View.ld x7 r0_4) (View.ld x9 r0_5))⟩,
    ⟨r0_6, k0_pay34 (k0_pay3 (View.ld x0 r0_0) (View.ld x1 r0_1)) (View.ld x7 r0_4) (View.ld x8 r0_4) (View.ld x9 r0_5)⟩]

/-- Its stores tile the buffer (checked by evaluation), so they cover it. -/
theorem cover0_11 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (p12 : Vec F S1x256x64 .f32) (p13 : Vec F S1x256x64 .f32) (p14 : Vec F S1x256x64 .f32) (p15 : Vec F S1x256x64 .f32) (p16 : Vec F S1x256x64 .f32) (p17 : Vec F S1x256x64 .f32) (p18 : Vec F S1x256x64 .f32) (p19 : Vec F S1x256x64 .f32) (p20 : Vec F S1x256x64 .f32) (p21 : Vec F S1x256x64 .f32) (p22 : Vec F S1x256x64 .f32) (p23 : Vec F S1x256x64 .f32) (y : S24x256x64.Idx) :
    ∃ pc ∈ ([⟨r0_29, p0⟩, ⟨r0_28, p1⟩, ⟨r0_27, p2⟩, ⟨r0_26, p3⟩, ⟨r0_25, p4⟩, ⟨r0_24, p5⟩, ⟨r0_23, p6⟩, ⟨r0_22, p7⟩, ⟨r0_21, p8⟩, ⟨r0_20, p9⟩, ⟨r0_19, p10⟩, ⟨r0_18, p11⟩, ⟨r0_17, p12⟩, ⟨r0_16, p13⟩, ⟨r0_15, p14⟩, ⟨r0_14, p15⟩, ⟨r0_13, p16⟩, ⟨r0_12, p17⟩, ⟨r0_11, p18⟩, ⟨r0_10, p19⟩, ⟨r0_9, p20⟩, ⟨r0_8, p21⟩, ⟨r0_7, p22⟩, ⟨r0_6, p23⟩] : List (View.Piece (Elt F) S24x256x64 .f32)), y ∈ pc.1.set :=
  View.cover_of_tiled [⟨r0_29, p0⟩, ⟨r0_28, p1⟩, ⟨r0_27, p2⟩, ⟨r0_26, p3⟩, ⟨r0_25, p4⟩, ⟨r0_24, p5⟩, ⟨r0_23, p6⟩, ⟨r0_22, p7⟩, ⟨r0_21, p8⟩, ⟨r0_20, p9⟩, ⟨r0_19, p10⟩, ⟨r0_18, p11⟩, ⟨r0_17, p12⟩, ⟨r0_16, p13⟩, ⟨r0_15, p14⟩, ⟨r0_14, p15⟩, ⟨r0_13, p16⟩, ⟨r0_12, p17⟩, ⟨r0_11, p18⟩, ⟨r0_10, p19⟩, ⟨r0_9, p20⟩, ⟨r0_8, p21⟩, ⟨r0_7, p22⟩, ⟨r0_6, p23⟩] S1x256x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x1024 .f32) (harg1 : arg1.IsWhole) (arg2 : Memref sig .tc .vmem S768x1024 .f32) (harg2 : arg2.IsWhole) (arg3 : Memref sig .tc .vmem S192x1024 .f32) (harg3 : arg3.IsWhole) (arg4 : Memref sig .tc .vmem S192x1024 .f32) (harg4 : arg4.IsWhole) (arg5 : Memref sig .tc .vmem S256x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S24x256x64 .f32) (harg12 : arg12.IsWhole)
    (x0 : Vec F S256x1024 .f32) (x1 : Vec F S768x1024 .f32) (x2 : Vec F S192x1024 .f32) (x3 : Vec F S192x1024 .f32) (x4 : Vec F S256x1024 .f32) (x5 : Vec F S64x1024 .f32) (x6 : Vec F S64x1024 .f32) (x7 : Vec F S256x64 .f32) (x8 : Vec F S256x64 .f32) (x9 : Vec F S1x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover0_11 _ _ _ _ _ _ _ _ _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.Ki.FusedOut.lean ====
/- The fused attention call: what its body computes at one grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev ms1_0 (t : Fin cfg1.N) : Memref sig .tc .vmem S24x2048x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .f32 := win1_4.stage (cfg1.slots t 4)
abbrev hs1_4 (t : Fin cfg1.N) : (ms1_4 t).IsWhole := hstage1_4 ((cfg1.slots t 4).cast nbuf1_4)
/-- The scratch that holds the chunk means. -/
abbrev scM1_0 : Memref sig .tc .vmem S32x64 .f32 := Memref.whole cc1_scratch0

/-- The other scoped buffers, at any contents, beside `P`. -/
def besides (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ P)

theorem PhiA1_eq (c : Dev nD) :
    (Pipeline.ΦA spec1 c : sProp 𝕄)
      = iprop(besides c iprop(∃ d, owns (c : Thread nD τ) scM1_0 fullShare d) ∗ (∃ r, prngReg c r)) := by
  unfold Pipeline.ΦA besides; rw [scopedRest1_eq]; simp only [scM1_0, owns_whole]; try rfl

/-- What stands beside the other scoped buffers may be changed. -/
theorem besides_split (c : Dev nD) (P Q : sProp 𝕄) : besides c P ⊢ iprop(P ∗ (Q -∗ besides c Q)) := by
  unfold besides
  iintro ⟨R0, R1, R2, R3, R4, R5, R6, R7, R8, R9, R10, R11, R12, R13, R14, R15, HP⟩
  isplitl [HP]; · iexact HP
  iintro HQ

  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HQ

/-- The branch of the body is taken at the first point and at no other. -/
abbrev cond1 (i : grid1.Coords) : Prop := (Scalar.cmpi .ne (Scalar.extui (Scalar.cmpi .eq (BitVec.ofNat 32 (i 0).val) 0#32)) 0#32) = 1#1
theorem cond1_mod : ∀ t : Fin cfg1.N, cond1 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1, e0]
    word_cmp
   : ∀ t : Fin grid1.N, cond1 (grid1.coords t) ↔ t.val % 8 = 0)
theorem cond1_iff (t : Fin cfg1.N) : cond1 (grid1.coords t) ↔ t.val = 0 := by
  have ht : t.val < 8 := Nat.lt_of_lt_of_eq t.isLt N_1
  rw [cond1_mod]; omega

/-! ## What the body computes -/

/-- The 256 rows of one head at the offset `o`. -/
abbrev ldq (x0 : Vec F S24x2048x64 .f32) (o : Fin 3 → ℕ) (h : ∀ a, o a + S1x256x64.size a ≤ S24x2048x64.size a) : Vec F S1x256x64 .f32 :=
  View.ld x0 (Rect.unit (s := S24x2048x64) o S1x256x64.size h)
/-- All rows of the head of the compressed keys, and of the compressed values. -/
abbrev ldk (x0 : Vec F S24x2048x64 .f32) : Vec F S1x2048x64 .f32 :=
  View.ld x0 (Rect.unit (s := S24x2048x64) ![22, 0, 0] S1x2048x64.size inb_S24x2048x64_S1x2048x64_22_0_0)
abbrev ldv (x0 : Vec F S24x2048x64 .f32) : Vec F S1x2048x64 .f32 :=
  View.ld x0 (Rect.unit (s := S24x2048x64) ![23, 0, 0] S1x2048x64.size inb_S24x2048x64_S1x2048x64_23_0_0)
/-- The chunk expansion, the window factors and the output weight, as loaded. -/
abbrev ldE (x1 : Vec F S32x2048 .f32) : Vec F S32x2048 .f32 :=
  View.ld x1 (Rect.unit (s := S32x2048) ![0, 0] S32x2048.size inb_S32x2048_S32x2048_0_0)
abbrev ldw (x2 : Vec F S1024x768 .f32) : Vec F S1024x768 .f32 :=
  View.ld x2 (Rect.unit (s := S1024x768) ![0, 0] S1024x768.size inb_S1024x768_S1024x768_0_0)
abbrev ldo (x3 : Vec F S1024x1024 .f32) : Vec F S1024x1024 .f32 :=
  View.ld x3 (Rect.unit (s := S1024x1024) ![0, 0] S1024x1024.size inb_S1024x1024_S1024x1024_0_0)
abbrev rlm : Rect S32x64 := Rect.unit (s := S32x64) ![0, 0] S32x64.size inb_S32x64_S32x64_0_0
abbrev rout : Rect S256x1024 := Rect.unit (s := S256x1024) ![0, 0] S256x1024.size inb_S256x1024_S256x1024_0_0

/-- The chunk means the first point leaves in the scratch. -/
def lmOf (x0 : Vec F S24x2048x64 .f32) (x1 : Vec F S32x2048 .f32) : Vec F S32x64 .f32 := k1_pay2 (ldk x0) (ldE x1)

/-- The compressed queries of the block's four heads, one under the other. -/
def hqOf (i : grid1.Coords) (x0 : Vec F S24x2048x64 .f32) : FVec F S1024x64 .f32 :=
  k1_pay3 (ldq x0 (k1_off1 i) (k1_off1_inb i)) (ldq x0 (k1_off2 i) (k1_off2_inb i)) (ldq x0 (k1_off3 i) (k1_off3_inb i)) (ldq x0 (k1_off4 i) (k1_off4_inb i))
/-- Their scores against the chunk means. -/
def simOf (i : grid1.Coords) (x0 : Vec F S24x2048x64 .f32) (lm : Vec F S32x64 .f32) : FVec F S1024x32 .f32 :=
  k1_pay4 (ldq x0 (k1_off1 i) (k1_off1_inb i)) (ldq x0 (k1_off2 i) (k1_off2_inb i)) (ldq x0 (k1_off3 i) (k1_off3_inb i)) (ldq x0 (k1_off4 i) (k1_off4_inb i)) lm
/-- Which chunks may be taken at all. -/
def availOf (i : grid1.Coords) : IVec S1024x32 1 := k1_pay8 (k1_pay5 i) 64#32 (k1_pay6 i) (k1_pay7 i) 0#32
/-- The chunks taken: from the scores, by eight rounds. -/
def selOf (i : grid1.Coords) (sim : FVec F S1024x32 .f32) : FVec F S1024x32 .f32 :=
  k1_pay35 (availOf i) (k1_pay9 sim (k1_pay5 i) 64#32 (k1_pay6 i) (k1_pay7 i) 0#32)
    (k1_pay32 (k1_pay13 sim (k1_pay5 i) 64#32 (k1_pay6 i) (k1_pay7 i) 0#32) (k1_pay14 sim (k1_pay5 i) 64#32 (k1_pay6 i) (k1_pay7 i) 0#32) (k1_pay15 sim (k1_pay5 i) 64#32 (k1_pay6 i) (k1_pay7 i) 0#32) (k1_pay16 sim (k1_pay5 i) 64#32 (k1_pay6 i) (k1_pay7 i) 0#32) (k1_pay17 sim (k1_pay5 i) 64#32 (k1_pay6 i) (k1_pay7 i) 0#32) (k1_pay18 sim (k1_pay5 i) 64#32 (k1_pay6 i) (k1_pay7 i) 0#32) (k1_pay19 sim (k1_pay5 i) 64#32 (k1_pay6 i) (k1_pay7 i) 0#32))
    (k1_pay33 (k1_pay14 sim (k1_pay5 i) 64#32 (k1_pay6 i) (k1_pay7 i) 0#32) (k1_pay17 sim (k1_pay5 i) 64#32 (k1_pay6 i) (k1_pay7 i) 0#32))
    (k1_pay34 (k1_pay14 sim (k1_pay5 i) 64#32 (k1_pay6 i) (k1_pay7 i) 0#32) (k1_pay15 sim (k1_pay5 i) 64#32 (k1_pay6 i) (k1_pay7 i) 0#32) (k1_pay17 sim (k1_pay5 i) 64#32 (k1_pay6 i) (k1_pay7 i) 0#32) (k1_pay18 sim (k1_pay5 i) 64#32 (k1_pay6 i) (k1_pay7 i) 0#32))
/-- The factor of the band's three blocks of columns. -/
def cmOf (i : grid1.Coords) : FVec F S1x768 .f32 := k1_pay39 (k1_pay37 (F := F) (BitVec.ofNat 32 (i 0).val)) (k1_pay38 (F := F) (BitVec.ofNat 32 (i 0).val))
/-- The window factors. -/
def w3Of (x2 : Vec F S1024x768 .f32) : FVec F S1024x768 .f32 := k1_pay36 (ldw x2)

/-- Windowed attention, group 0, head 0. -/
def swa0_0 (i : grid1.Coords) (x0 : Vec F S24x2048x64 .f32) (x2 : Vec F S1024x768 .f32) : FVec F S256x64 .f32 :=
  k1_pay44 (w3Of x2) (cmOf i) (k1_pay40 (ldq x0 (k1_off5 i) (k1_off5_inb i)) (ldq x0 (k1_off6 i) (k1_off6_inb i)) (ldq x0 (k1_off7 i) (k1_off7_inb i)) (ldq x0 (k1_off8 i) (k1_off8_inb i))) (k1_pay41 (ldq x0 (k1_off9 i 0#32) (k1_off9_inb i 0))) (k1_pay42 (ldq x0 (k1_off9 i 1#32) (k1_off9_inb i 1))) (ldq x0 (k1_off9 i 2#32) (k1_off9_inb i 2)) (ldq x0 (k1_off10 i 0#32) (k1_off10_inb i 0)) (ldq x0 (k1_off10 i 1#32) (k1_off10_inb i 1)) (ldq x0 (k1_off10 i 2#32) (k1_off10_inb i 2))
/-- Windowed attention, group 0, head 1. -/
def swa0_1 (i : grid1.Coords) (x0 : Vec F S24x2048x64 .f32) (x2 : Vec F S1024x768 .f32) : FVec F S256x64 .f32 :=
  k1_pay45 (w3Of x2) (cmOf i) (k1_pay40 (ldq x0 (k1_off5 i) (k1_off5_inb i)) (ldq x0 (k1_off6 i) (k1_off6_inb i)) (ldq x0 (k1_off7 i) (k1_off7_inb i)) (ldq x0 (k1_off8 i) (k1_off8_inb i))) (k1_pay41 (ldq x0 (k1_off9 i 0#32) (k1_off9_inb i 0))) (k1_pay42 (ldq x0 (k1_off9 i 1#32) (k1_off9_inb i 1))) (ldq x0 (k1_off9 i 2#32) (k1_off9_inb i 2)) (ldq x0 (k1_off10 i 0#32) (k1_off10_inb i 0)) (ldq x0 (k1_off10 i 1#32) (k1_off10_inb i 1)) (ldq x0 (k1_off10 i 2#32) (k1_off10_inb i 2))
/-- Windowed attention, group 0, head 2. -/
def swa0_2 (i : grid1.Coords) (x0 : Vec F S24x2048x64 .f32) (x2 : Vec F S1024x768 .f32) : FVec F S256x64 .f32 :=
  k1_pay46 (w3Of x2) (cmOf i) (k1_pay40 (ldq x0 (k1_off5 i) (k1_off5_inb i)) (ldq x0 (k1_off6 i) (k1_off6_inb i)) (ldq x0 (k1_off7 i) (k1_off7_inb i)) (ldq x0 (k1_off8 i) (k1_off8_inb i))) (k1_pay41 (ldq x0 (k1_off9 i 0#32) (k1_off9_inb i 0))) (k1_pay42 (ldq x0 (k1_off9 i 1#32) (k1_off9_inb i 1))) (ldq x0 (k1_off9 i 2#32) (k1_off9_inb i 2)) (ldq x0 (k1_off10 i 0#32) (k1_off10_inb i 0)) (ldq x0 (k1_off10 i 1#32) (k1_off10_inb i 1)) (ldq x0 (k1_off10 i 2#32) (k1_off10_inb i 2))
/-- Windowed attention, group 0, head 3. -/
def swa0_3 (i : grid1.Coords) (x0 : Vec F S24x2048x64 .f32) (x2 : Vec F S1024x768 .f32) : FVec F S256x64 .f32 :=
  k1_pay47 (w3Of x2) (cmOf i) (k1_pay40 (ldq x0 (k1_off5 i) (k1_off5_inb i)) (ldq x0 (k1_off6 i) (k1_off6_inb i)) (ldq x0 (k1_off7 i) (k1_off7_inb i)) (ldq x0 (k1_off8 i) (k1_off8_inb i))) (k1_pay41 (ldq x0 (k1_off9 i 0#32) (k1_off9_inb i 0))) (k1_pay42 (ldq x0 (k1_off9 i 1#32) (k1_off9_inb i 1))) (ldq x0 (k1_off9 i 2#32) (k1_off9_inb i 2)) (ldq x0 (k1_off10 i 0#32) (k1_off10_inb i 0)) (ldq x0 (k1_off10 i 1#32) (k1_off10_inb i 1)) (ldq x0 (k1_off10 i 2#32) (k1_off10_inb i 2))
/-- Windowed attention, group 1: the row sums and the products with the values. -/
def den1 (i : grid1.Coords) (x0 : Vec F S24x2048x64 .f32) (x2 : Vec F S1024x768 .f32) : FVec F S1024x1 .f32 := k1_pay51 (w3Of x2) (cmOf i) (k1_pay48 (ldq x0 (k1_off11 i) (k1_off11_inb i))) (k1_pay49 (ldq x0 (k1_off12 i) (k1_off12_inb i))) (ldq x0 (k1_off13 i) (k1_off13_inb i)) (ldq x0 (k1_off14 i) (k1_off14_inb i)) (ldq x0 (k1_off15 i 0#32) (k1_off15_inb i 0)) (ldq x0 (k1_off15 i 1#32) (k1_off15_inb i 1)) (ldq x0 (k1_off15 i 2#32) (k1_off15_inb i 2))
def num1 (i : grid1.Coords) (x0 : Vec F S24x2048x64 .f32) (x2 : Vec F S1024x768 .f32) : FVec F S1024x64 .f32 :=
  k1_pay52 (w3Of x2) (cmOf i) (k1_pay48 (ldq x0 (k1_off11 i) (k1_off11_inb i))) (k1_pay49 (ldq x0 (k1_off12 i) (k1_off12_inb i))) (ldq x0 (k1_off13 i) (k1_off13_inb i)) (ldq x0 (k1_off14 i) (k1_off14_inb i)) (ldq x0 (k1_off15 i 0#32) (k1_off15_inb i 0)) (ldq x0 (k1_off15 i 1#32) (k1_off15_inb i 1)) (ldq x0 (k1_off15 i 2#32) (k1_off15_inb i 2)) (ldq x0 (k1_off16 i 0#32) (k1_off16_inb i 0)) (ldq x0 (k1_off16 i 1#32) (k1_off16_inb i 1)) (ldq x0 (k1_off16 i 2#32) (k1_off16_inb i 2))
/-- Windowed attention, group 1, head 0. -/
def swa1_0 (i : grid1.Coords) (x0 : Vec F S24x2048x64 .f32) (x2 : Vec F S1024x768 .f32) : FVec F S256x64 .f32 := k1_pay54 (den1 i x0 x2) (num1 i x0 x2)
/-- Windowed attention, group 1, head 1. -/
def swa1_1 (i : grid1.Coords) (x0 : Vec F S24x2048x64 .f32) (x2 : Vec F S1024x768 .f32) : FVec F S256x64 .f32 := k1_pay55 (den1 i x0 x2) (num1 i x0 x2)
/-- Windowed attention, group 1, head 2. -/
def swa1_2 (i : grid1.Coords) (x0 : Vec F S24x2048x64 .f32) (x2 : Vec F S1024x768 .f32) : FVec F S256x64 .f32 := k1_pay56 (den1 i x0 x2) (num1 i x0 x2)
/-- Windowed attention, group 1, head 3. -/
def swa1_3 (i : grid1.Coords) (x0 : Vec F S24x2048x64 .f32) (x2 : Vec F S1024x768 .f32) : FVec F S256x64 .f32 := k1_pay57 (den1 i x0 x2) (num1 i x0 x2)
/-- Windowed attention, group 2, head 0. -/
def swa2_0 (i : grid1.Coords) (x0 : Vec F S24x2048x64 .f32) (x2 : Vec F S1024x768 .f32) : FVec F S256x64 .f32 :=
  k1_pay62 (w3Of x2) (cmOf i) (k1_pay58 (ldq x0 (k1_off17 i) (k1_off17_inb i)) (ldq x0 (k1_off18 i) (k1_off18_inb i)) (ldq x0 (k1_off19 i) (k1_off19_inb i)) (ldq x0 (k1_off20 i) (k1_off20_inb i))) (k1_pay59 (ldq x0 (k1_off22 i 0#32) (k1_off22_inb i 0)) (ldq x0 (k1_off22 i 1#32) (k1_off22_inb i 1)) (ldq x0 (k1_off22 i 2#32) (k1_off22_inb i 2))) (k1_pay60 (ldq x0 (k1_off21 i 0#32) (k1_off21_inb i 0)) (ldq x0 (k1_off21 i 1#32) (k1_off21_inb i 1)) (ldq x0 (k1_off21 i 2#32) (k1_off21_inb i 2)))
/-- Windowed attention, group 2, head 1. -/
def swa2_1 (i : grid1.Coords) (x0 : Vec F S24x2048x64 .f32) (x2 : Vec F S1024x768 .f32) : FVec F S256x64 .f32 :=
  k1_pay63 (w3Of x2) (cmOf i) (k1_pay58 (ldq x0 (k1_off17 i) (k1_off17_inb i)) (ldq x0 (k1_off18 i) (k1_off18_inb i)) (ldq x0 (k1_off19 i) (k1_off19_inb i)) (ldq x0 (k1_off20 i) (k1_off20_inb i))) (k1_pay59 (ldq x0 (k1_off22 i 0#32) (k1_off22_inb i 0)) (ldq x0 (k1_off22 i 1#32) (k1_off22_inb i 1)) (ldq x0 (k1_off22 i 2#32) (k1_off22_inb i 2))) (k1_pay60 (ldq x0 (k1_off21 i 0#32) (k1_off21_inb i 0)) (ldq x0 (k1_off21 i 1#32) (k1_off21_inb i 1)) (ldq x0 (k1_off21 i 2#32) (k1_off21_inb i 2)))
/-- Windowed attention, group 2, head 2. -/
def swa2_2 (i : grid1.Coords) (x0 : Vec F S24x2048x64 .f32) (x2 : Vec F S1024x768 .f32) : FVec F S256x64 .f32 :=
  k1_pay64 (w3Of x2) (cmOf i) (k1_pay58 (ldq x0 (k1_off17 i) (k1_off17_inb i)) (ldq x0 (k1_off18 i) (k1_off18_inb i)) (ldq x0 (k1_off19 i) (k1_off19_inb i)) (ldq x0 (k1_off20 i) (k1_off20_inb i))) (k1_pay59 (ldq x0 (k1_off22 i 0#32) (k1_off22_inb i 0)) (ldq x0 (k1_off22 i 1#32) (k1_off22_inb i 1)) (ldq x0 (k1_off22 i 2#32) (k1_off22_inb i 2))) (k1_pay60 (ldq x0 (k1_off21 i 0#32) (k1_off21_inb i 0)) (ldq x0 (k1_off21 i 1#32) (k1_off21_inb i 1)) (ldq x0 (k1_off21 i 2#32) (k1_off21_inb i 2)))
/-- Windowed attention, group 2, head 3. -/
def swa2_3 (i : grid1.Coords) (x0 : Vec F S24x2048x64 .f32) (x2 : Vec F S1024x768 .f32) : FVec F S256x64 .f32 :=
  k1_pay65 (w3Of x2) (cmOf i) (k1_pay58 (ldq x0 (k1_off17 i) (k1_off17_inb i)) (ldq x0 (k1_off18 i) (k1_off18_inb i)) (ldq x0 (k1_off19 i) (k1_off19_inb i)) (ldq x0 (k1_off20 i) (k1_off20_inb i))) (k1_pay59 (ldq x0 (k1_off22 i 0#32) (k1_off22_inb i 0)) (ldq x0 (k1_off22 i 1#32) (k1_off22_inb i 1)) (ldq x0 (k1_off22 i 2#32) (k1_off22_inb i 2))) (k1_pay60 (ldq x0 (k1_off21 i 0#32) (k1_off21_inb i 0)) (ldq x0 (k1_off21 i 1#32) (k1_off21_inb i 1)) (ldq x0 (k1_off21 i 2#32) (k1_off21_inb i 2)))
/-- The 512 positions before and at each row. -/
def winOf (i : grid1.Coords) : FVec F S256x2048 .f32 := k1_pay68 (F := F) (BitVec.ofNat 32 (i 0).val)
/-- Attention over the window and the taken chunks, head by head, from the four heads' queries `hq` and the taken chunks `sel`. -/
def hsa_0 (i : grid1.Coords) (x0 : Vec F S24x2048x64 .f32) (x1 : Vec F S32x2048 .f32) (hq : FVec F S1024x64 .f32) (sel : FVec F S1024x32 .f32) : FVec F S256x64 .f32 :=
  k1_pay71 (k1_pay67 (ldv x0)) (winOf i) (k1_pay69 hq (ldk x0)) (k1_pay70 sel) (ldE x1)
def hsa_1 (i : grid1.Coords) (x0 : Vec F S24x2048x64 .f32) (x1 : Vec F S32x2048 .f32) (hq : FVec F S1024x64 .f32) (sel : FVec F S1024x32 .f32) : FVec F S256x64 .f32 :=
  k1_pay72 hq sel (k1_pay66 (ldk x0)) (k1_pay67 (ldv x0)) (winOf i) (ldE x1)
def p2Of (i : grid1.Coords) (x0 : Vec F S24x2048x64 .f32) (x1 : Vec F S32x2048 .f32) (hq : FVec F S1024x64 .f32) (sel : FVec F S1024x32 .f32) : FVec F S256x2048 .f32 :=
  k1_pay76 (winOf i) (k1_pay73 hq (k1_pay66 (ldk x0))) (k1_pay74 sel) (k1_pay75 (ldE x1)) (constant S256x2048 .f32 0x00000000#32)
def hsa_2 (i : grid1.Coords) (x0 : Vec F S24x2048x64 .f32) (x1 : Vec F S32x2048 .f32) (hq : FVec F S1024x64 .f32) (sel : FVec F S1024x32 .f32) : FVec F S256x64 .f32 :=
  k1_pay77 (p2Of i x0 x1 hq sel) (matmul dot_S256x2048_S2048x64_S256x64_1_0_0_1_n_n none (p2Of i x0 x1 hq sel) (k1_pay67 (ldv x0)) (constant S256x64 .f32 0x00000000#32))
def p3Of (i : grid1.Coords) (x0 : Vec F S24x2048x64 .f32) (x1 : Vec F S32x2048 .f32) (hq : FVec F S1024x64 .f32) (sel : FVec F S1024x32 .f32) : FVec F S256x2048 .f32 :=
  k1_pay78 hq sel (k1_pay66 (ldk x0)) (winOf i) (ldE x1)
def hsa_3 (i : grid1.Coords) (x0 : Vec F S24x2048x64 .f32) (x1 : Vec F S32x2048 .f32) (hq : FVec F S1024x64 .f32) (sel : FVec F S1024x32 .f32) : FVec F S256x64 .f32 :=
  k1_pay79 (p3Of i x0 x1 hq sel) (matmul dot_S256x2048_S2048x64_S256x64_1_0_0_1_n_n none (p3Of i x0 x1 hq sel) (k1_pay67 (ldv x0)) (constant S256x64 .f32 0x00000000#32))

/-- The sixteen heads side by side. -/
def headsOf (i : grid1.Coords) (x0 : Vec F S24x2048x64 .f32) (x1 : Vec F S32x2048 .f32) (x2 : Vec F S1024x768 .f32) (hq : FVec F S1024x64 .f32) (sel : FVec F S1024x32 .f32) : FVec F S256x1024 .f32 :=
  k1_pay80 (swa0_0 i x0 x2) (swa0_1 i x0 x2) (swa0_2 i x0 x2) (swa0_3 i x0 x2) (swa1_0 i x0 x2) (swa1_1 i x0 x2) (swa1_2 i x0 x2) (swa1_3 i x0 x2) (swa2_0 i x0 x2) (swa2_1 i x0 x2) (swa2_2 i x0 x2) (swa2_3 i x0 x2) (hsa_0 i x0 x1 hq sel) (hsa_1 i x0 x1 hq sel) (hsa_2 i x0 x1 hq sel) (hsa_3 i x0 x1 hq sel)

/-- The block the body stores. -/
def payOf (i : grid1.Coords) (x0 : Vec F S24x2048x64 .f32) (x1 : Vec F S32x2048 .f32) (x2 : Vec F S1024x768 .f32) (x3 : Vec F S1024x1024 .f32) (lm : Vec F S32x64 .f32) : Vec F S256x1024 .f32 :=
  k1_pay1 (headsOf i x0 x1 x2 (hqOf i x0) (selOf i (simOf i x0 lm))) (ldo x3) (constant S256x1024 .f32 0x00000000#32)

theorem cover_rout (p : Vec F S256x1024 .f32) (x : S256x1024.Idx) : ∃ pc ∈ ([⟨rout, p⟩] : List (View.Piece (Elt F) S256x1024 .f32)), x ∈ pc.1.set :=
  View.cover_of_tiled [⟨rout, p⟩] S256x1024.size (by rfl) x
theorem cover_rlm (p : Vec F S32x64 .f32) (x : S32x64.Idx) : ∃ pc ∈ ([⟨rlm, p⟩] : List (View.Piece (Elt F) S32x64 .f32)), x ∈ pc.1.set :=
  View.cover_of_tiled [⟨rlm, p⟩] S32x64.size (by rfl) x

end Cert.KernelIdeal.Own

end
-- ==== Proof.Ki.Fused.lean ====
/- The fused attention call: its body at one grid point, and the data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ki.FusedOut

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point: the scratch, at anything, is filled with the chunk means. -/
theorem sound_first (c : Dev nD) (E : Set ℕ) (i : grid1.Coords) (arg1 : Memref sig .tc .vmem S24x2048x64 .f32) (harg1 : arg1.IsWhole) (arg2 : Memref sig .tc .vmem S32x2048 .f32) (harg2 : arg2.IsWhole) (arg3 : Memref sig .tc .vmem S1024x768 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S32x64 .f32) (harg6 : arg6.IsWhole)
    (x0 : Vec F S24x2048x64 .f32) (x1 : Vec F S32x2048 .f32) (x2 : Vec F S1024x768 .f32) (x3 : Vec F S1024x1024 .f32) (hc : cond1 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (View.canon [⟨rout, payOf i x0 x1 x2 x3 (lmOf x0 x1)⟩]) ∗ owns (c : Thread nD τ) arg6 fullShare (View.canon [⟨rlm, (lmOf x0 x1)⟩])) -∗ K ⟨⟩))
      ⊢ wp frame (wpE (defs₀ (F := F)) Variants.none c none) E (cc1__fused_kernel i arg1 harg1 arg2 harg2 arg3 harg3 arg4 harg4 arg5 harg5 arg6 harg6) K := by
  simp only [cc1__fused_kernel_eq_skeleton]; unfold cc1__fused_kernel_skel
  simp only [k1_part11_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_rout _)).trans ?_
    have e : arg6.view.readCov [⟨rlm, lmOf (View.read (Elt F) arg1.view f0) (View.read (Elt F) arg2.view f1)⟩] rlm.toLoadRect
        = lmOf (View.read (Elt F) arg1.view f0) (View.read (Elt F) arg2.view f1) := View.readCov_cons_toLoadRect _ _ _ _
    refine Eq.trans ?_ (congrArg (fun lm => View.canon [(⟨rout, payOf i (View.read (Elt F) arg1.view f0) (View.read (Elt F) arg2.view f1) (View.read (Elt F) arg3.view f2) (View.read (Elt F) arg4.view f3) lm⟩ : View.Piece (Elt F) S256x1024 .f32)]) e)
    rfl
  iexists _; isplitr
  swap; · iexact H5
  ipureintro
  exact View.read_writes_eq_canon _ _ _ (cover_rlm _)

set_option maxHeartbeats 1000000 in
/-- The body at a later point: the scratch holds `xs` and keeps it. -/
theorem sound_later (c : Dev nD) (E : Set ℕ) (i : grid1.Coords) (arg1 : Memref sig .tc .vmem S24x2048x64 .f32) (harg1 : arg1.IsWhole) (arg2 : Memref sig .tc .vmem S32x2048 .f32) (harg2 : arg2.IsWhole) (arg3 : Memref sig .tc .vmem S1024x768 .f32) (harg3 : arg3.IsWhole) (arg4 : Memref sig .tc .vmem S1024x1024 .f32) (harg4 : arg4.IsWhole) (arg5 : Memref sig .tc .vmem S256x1024 .f32) (harg5 : arg5.IsWhole) (arg6 : Memref sig .tc .vmem S32x64 .f32) (harg6 : arg6.IsWhole)
    (x0 : Vec F S24x2048x64 .f32) (x1 : Vec F S32x2048 .f32) (x2 : Vec F S1024x768 .f32) (x3 : Vec F S1024x1024 .f32) (xs : Vec F S32x64 .f32) (hc : ¬ cond1 i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (View.canon [⟨rout, payOf i x0 x1 x2 x3 (View.ld xs rlm)⟩]) ∗ owns (c : Thread nD τ) arg6 fullShare xs) -∗ K ⟨⟩))
      ⊢ wp frame (wpE (defs₀ (F := F)) Variants.none c none) E (cc1__fused_kernel i arg1 harg1 arg2 harg2 arg3 harg3 arg4 harg4 arg5 harg5 arg6 harg6) K := by
  simp only [cc1__fused_kernel_eq_skeleton]; unfold cc1__fused_kernel_skel
  simp only [k1_part11_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_rout _)).trans ?_
    rfl
  iexists f5; isplitr
  swap; · iexact H5
  ipureintro
  rfl

/-- Reading the scratch back gives what was stored. -/
theorem ld_lm (lm : Vec F S32x64 .f32) : View.ld (View.canon [(⟨rlm, lm⟩ : View.Piece (Elt F) S32x64 .f32)]) rlm = lm :=
  funext fun x => View.canon_cons_emb rlm lm [] x

/-! ## The pipeline's data -/

/-- The first point. -/
def t0 : Fin cfg1.N := ⟨0, by have : cfg1.N = 8 := N_1; omega⟩
/-- The chunk means of the region's arrays. -/
def lmAt (c : Dev nD) : Vec F S32x64 .f32 := lmOf (iblk1 V c 0 t0) (iblk1 V c 1 t0)

/-- Before the first point the scratch holds anything; before any later point, the chunk means. -/
def PhiS (c : Dev nD) (n : ℕ) : sProp 𝕄 :=
  if n = 0 then Pipeline.ΦA spec1 c
  else iprop(besides c iprop(owns (c : Thread nD τ) scM1_0 fullShare (View.canon [⟨rlm, lmAt V c⟩])) ∗ (∃ r, prngReg c r))

/-- The data of the fused call's pipeline. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => View.canon [⟨rout, payOf (grid1.coords t) (iblk1 V c 0 t) (iblk1 V c 1 t) (iblk1 V c 2 t) (iblk1 V c 3 t) (lmAt V c)⟩]
  Φ t := PhiS V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = View.canon [⟨rout, payOf (grid1.coords t) (iblk1 V c 0 t) (iblk1 V c 1 t) (iblk1 V c 2 t) (iblk1 V c 3 t) (lmAt V c)⟩] := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 3200000 in
/-- The body at any point: at the first it fills the scratch, later it reads it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4]
  rw [show (dat1 V c).Φ t.succ = PhiS V c (t.val + 1) from rfl, show (dat1 V c).Φ t.castSucc = PhiS V c t.val from rfl]
  rw [show PhiS V c (t.val + 1) = iprop(besides c iprop(owns (c : Thread nD τ) scM1_0 fullShare (View.canon [⟨rlm, lmAt V c⟩])) ∗ (∃ r, prngReg c r)) from if_neg (Nat.succ_ne_zero _)]
  by_cases hz : t.val = 0
  · rw [show PhiS V c t.val = Pipeline.ΦA spec1 c from if_pos hz, PhiA1_eq]
    obtain rfl : t = t0 := Fin.ext hz
    iintro ⟨⟨HB, Hg⟩, Ho, ⟨%d0, H0⟩, ⟨%d1, H1⟩, ⟨%d2, H2⟩, ⟨%d3, H3⟩, ⟨%d4, H4⟩⟩
    ihave HB2 := (besides_split c _ (iprop(owns (c : Thread nD τ) scM1_0 fullShare (View.canon [⟨rlm, lmAt V c⟩])))) $$ HB
    icases HB2 with ⟨HS, Hback⟩
    iapply (sound_first c Set.univ (grid1.coords t0) _ _ _ _ _ _ _ _ _ _ _ _ (iblk1 V c 0 t0) (iblk1 V c 1 t0) (iblk1 V c 2 t0) (iblk1 V c 3 t0) ((cond1_iff t0).mpr rfl) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg Hback]
    · isplitl [HS Hback]
      · iapply Hback; iexact HS
      iexact Hg
    isplitl [Ho]; · iexact Ho
    isplitl [H0]; · iexact H0
    isplitl [H1]; · iexact H1
    isplitl [H2]; · iexact H2
    isplitl [H3]; · iexact H3
    iexact H4
  · rw [show PhiS V c t.val = iprop(besides c iprop(owns (c : Thread nD τ) scM1_0 fullShare (View.canon [⟨rlm, lmAt V c⟩])) ∗ (∃ r, prngReg c r)) from if_neg hz]
    iintro ⟨⟨HB, Hg⟩, Ho, ⟨%d0, H0⟩, ⟨%d1, H1⟩, ⟨%d2, H2⟩, ⟨%d3, H3⟩, ⟨%d4, H4⟩⟩
    ihave HB2 := (besides_split c _ (iprop(owns (c : Thread nD τ) scM1_0 fullShare (View.canon [⟨rlm, lmAt V c⟩])))) $$ HB
    icases HB2 with ⟨HS, Hback⟩
    iapply (sound_later c Set.univ (grid1.coords t) _ _ _ _ _ _ _ _ _ _ _ _ (iblk1 V c 0 t) (iblk1 V c 1 t) (iblk1 V c 2 t) (iblk1 V c 3 t) (View.canon [⟨rlm, lmAt V c⟩]) (fun h => hz ((cond1_iff t).mp h)) _)
    isplitl [H0]; · iexact H0
    isplitl [H1]; · iexact H1
    isplitl [H2]; · iexact H2
    isplitl [H3]; · iexact H3
    isplitl [H4]; · iexists _; iexact H4
    isplitl [HS]; · iexact HS
    rw [ld_lm]
    iintro ⟨H0, H1, H2, H3, H4, HS⟩
    isplitl [HS Hg Hback]
    · isplitl [HS Hback]
      · iapply Hback; iexact HS
      iexact Hg
    isplitl [Ho]; · iexact Ho
    isplitl [H0]; · iexact H0
    isplitl [H1]; · iexact H1
    isplitl [H2]; · iexact H2
    isplitl [H3]; · iexact H3
    iexact H4

theorem defs₀_row1 (t : Fin cfg1.N) :
    defs₀ (F := F) .tc cfg1.body (cfg1.bodyArgs t (cfg1.slots t)) = bodyAt1 t := by
  unfold defs₀; rw [Defs.onTc_tc]

/-- The pipeline's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point, -/
theorem hin1 (c : Dev nD) : Pipeline.ΦA spec1 c ⊢ (dat1 V c).Φ 0 := by
  rw [show (dat1 V c).Φ 0 = PhiS V c 0 from rfl, show PhiS V c 0 = Pipeline.ΦA spec1 c from if_pos rfl]
/-- and the invariant after the last gives it back. -/
theorem hout1 (c : Dev nD) : (dat1 V c).Φ (Fin.last cfg1.N) ⊢ Pipeline.ΦA spec1 c := by
  have hN : cfg1.N = 8 := N_1
  rw [show (dat1 V c).Φ (Fin.last cfg1.N) = PhiS V c cfg1.N from rfl, show PhiS V c cfg1.N = iprop(besides c iprop(owns (c : Thread nD τ) scM1_0 fullShare (View.canon [⟨rlm, lmAt V c⟩])) ∗ (∃ r, prngReg c r)) from if_neg (by omega), PhiA1_eq]
  iintro ⟨HB, Hg⟩
  isplitl [HB]
  · ihave HB2 := (besides_split c _ (iprop(∃ d, owns (c : Thread nD τ) scM1_0 fullShare d))) $$ HB
    icases HB2 with ⟨HS, Hback⟩
    iapply Hback; iexists _; iexact HS
  iexact Hg

end Cert.KernelIdeal.Own

end
-- ==== Proof.Ki.Run.lean ====
/- The run of the whole program: the host operations and the two calls, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Gen.KernelIdeal.Regions
public import proofs.«01_k».proof.Proof.Ki.Proj
public import proofs.«01_k».proof.Proof.Ki.Fused

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- `hostOps0` writes none of the argument arrays (checked: each argument against each reference it writes). -/
theorem hostOps0_args : ∀ a ∈ argRefs, a ∉ hostOps0_W := ListAll.forall_mem_of_all_decide (by decide +kernel)

/-- `hostOps1` writes none of the argument arrays (checked: each argument against each reference it writes). -/
theorem hostOps1_args : ∀ a ∈ argRefs, a ∉ hostOps1_W := ListAll.forall_mem_of_all_decide (by decide +kernel)

/-- `hostOps1_1` writes none of the argument arrays (checked: each argument against each reference it writes). -/
theorem hostOps1_1_args : ∀ a ∈ argRefs, a ∉ hostOps1_1_W := ListAll.forall_mem_of_all_decide (by decide +kernel)

/-- `hostOps1_2` writes none of the argument arrays (checked: each argument against each reference it writes). -/
theorem hostOps1_2_args : ∀ a ∈ argRefs, a ∉ hostOps1_2_W := ListAll.forall_mem_of_all_decide (by decide +kernel)

/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2` (region 1's entry). -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)
theorem W7_main_arg4 (c : Dev nD) : W7 m ρ c (Proc.devRef .tc main_arg4) = m ((c : Thread nD τ).loc main_arg4) :=
  W7_args m ρ c main_arg4 (by decide)
theorem W7_main_arg5 (c : Dev nD) : W7 m ρ c (Proc.devRef .tc main_arg5) = m ((c : Thread nD τ).loc main_arg5) :=
  W7_args m ρ c main_arg5 (by decide)
theorem W7_main_arg6 (c : Dev nD) : W7 m ρ c (Proc.devRef .tc main_arg6) = m ((c : Thread nD τ).loc main_arg6) :=
  W7_args m ρ c main_arg6 (by decide)
theorem W7_main_arg7 (c : Dev nD) : W7 m ρ c (Proc.devRef .tc main_arg7) = m ((c : Thread nD τ).loc main_arg7) :=
  W7_args m ρ c main_arg7 (by decide)
theorem W7_main_arg8 (c : Dev nD) : W7 m ρ c (Proc.devRef .tc main_arg8) = m ((c : Thread nD τ).loc main_arg8) :=
  W7_args m ρ c main_arg8 (by decide)
theorem W7_main_arg9 (c : Dev nD) : W7 m ρ c (Proc.devRef .tc main_arg9) = m ((c : Thread nD τ).loc main_arg9) :=
  W7_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c)
    unfold Pipeline.ΦA
    iintro ⟨Hp, -, Hr⟩
    isplitl [Hr]; · iexact Hr
    iexact Hp
  hout c := by
    refine BIBase.Entails.trans (hout1 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every fair execution ends, every unscoped buffer at the last boundary's contents, every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1 c _ (mem_uc main_arg0 (by decide))).trans (W7_main_arg0 m ρ c),
    (h.1 c _ (mem_uc main_arg1 (by decide))).trans (W7_main_arg1 m ρ c),
    (h.1 c _ (mem_uc main_arg2 (by decide))).trans (W7_main_arg2 m ρ c),
    (h.1 c _ (mem_uc main_arg3 (by decide))).trans (W7_main_arg3 m ρ c),
    (h.1 c _ (mem_uc main_arg4 (by decide))).trans (W7_main_arg4 m ρ c),
    (h.1 c _ (mem_uc main_arg5 (by decide))).trans (W7_main_arg5 m ρ c),
    (h.1 c _ (mem_uc main_arg6 (by decide))).trans (W7_main_arg6 m ρ c),
    (h.1 c _ (mem_uc main_arg7 (by decide))).trans (W7_main_arg7 m ρ c),
    (h.1 c _ (mem_uc main_arg8 (by decide))).trans (W7_main_arg8 m ρ c),
    (h.1 c _ (mem_uc main_arg9 (by decide))).trans (W7_main_arg9 m ρ c)⟩, h.2⟩) (run_all m ρ)

/-- The arguments end as launched, and the result holds what the last boundary's contents say. -/
theorem run_val : θ_run defs (onTc (τ := τ) (main (F := F))) ⟨m, fun _ => 0, ρ⟩ (fun r => ∀ c : Dev nD,
      r.2.mem ((c.tc : Thread nD τ).loc main_v55) = W7 m ρ c (Proc.devRef .tc main_v55)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => fun c => ⟨h.1 c _ (mem_uc main_v55 (by decide)),
    (h.1 c _ (mem_uc main_arg0 (by decide))).trans (W7_main_arg0 m ρ c),
    (h.1 c _ (mem_uc main_arg1 (by decide))).trans (W7_main_arg1 m ρ c),
    (h.1 c _ (mem_uc main_arg2 (by decide))).trans (W7_main_arg2 m ρ c),
    (h.1 c _ (mem_uc main_arg3 (by decide))).trans (W7_main_arg3 m ρ c),
    (h.1 c _ (mem_uc main_arg4 (by decide))).trans (W7_main_arg4 m ρ c),
    (h.1 c _ (mem_uc main_arg5 (by decide))).trans (W7_main_arg5 m ρ c),
    (h.1 c _ (mem_uc main_arg6 (by decide))).trans (W7_main_arg6 m ρ c),
    (h.1 c _ (mem_uc main_arg7 (by decide))).trans (W7_main_arg7 m ρ c),
    (h.1 c _ (mem_uc main_arg8 (by decide))).trans (W7_main_arg8 m ρ c),
    (h.1 c _ (mem_uc main_arg9 (by decide))).trans (W7_main_arg9 m ρ c)⟩) (run_all m ρ)

end Cert.KernelIdeal.Own

end
-- ==== Proof.Math.Soft.lean ====
/- Attention of one query row over a set of keys, in the two ways the programs compute it. -/
module

public import Idealize.ShloMosaic.PureOps.Ideal
public import Idealize.ShloMosaic.PureOps.Ideal.Laws

@[expose] public section

noncomputable section

namespace Cert.Attn

open Idealize.ShloMosaic

/-- The extended real `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sum {K : Type*} {S : Finset K} {f : K → EReal} (h : ∀ k ∈ S, IsReal (f k)) : IsReal (∑ k ∈ S, f k) := by
  classical
  induction S using Finset.induction_on with
  | empty => exact ⟨0, by simp⟩
  | insert a S ha ih =>
    rw [Finset.sum_insert ha]
    exact (h a (Finset.mem_insert_self a S)).add (ih fun k hk => h k (Finset.mem_insert_of_mem hk))

/-- A sum of reals, taken among the extended reals. -/
theorem coe_sum {K : Type*} (S : Finset K) (f : K → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A factor that is a real and not negative goes into a sum. -/
theorem sum_mul_coe {K : Type*} (S : Finset K) (f : K → EReal) (c : ℝ) (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

theorem div_coe (x : EReal) {c : ℝ} (hc : 0 < c) : Ideal.div x (c : EReal) = x * ((c⁻¹ : ℝ) : EReal) := by
  unfold Ideal.div
  rw [if_neg (by simpa using hc.ne'), EReal.coe_inv]

/-- Attention of a row with the scores `ℓ` and the values `v` over the keys `S`. -/
def attn {J : Type*} (S : Finset J) (ℓ : J → ℝ) (v : J → EReal) : EReal :=
  ∑ j ∈ S, ((Real.exp (ℓ j) / ∑ k ∈ S, Real.exp (ℓ k) : ℝ) : EReal) * v j

/-- Keys may be renamed. -/
theorem attn_image {J K : Type*} [DecidableEq J] (T : Finset K) (φ : K → J) (hφ : Set.InjOn φ (T : Set K)) (ℓ : J → ℝ) (v : J → EReal)
    (ℓ' : K → ℝ) (v' : K → EReal) (hℓ : ∀ k ∈ T, ℓ' k = ℓ (φ k)) (hv : ∀ k ∈ T, v' k = v (φ k)) :
    attn T ℓ' v' = attn (T.image φ) ℓ v := by
  unfold attn
  rw [Finset.sum_image hφ, Finset.sum_image hφ, Finset.sum_congr rfl fun k hk => congrArg Real.exp (hℓ k hk)]
  exact Finset.sum_congr rfl fun k hk => by rw [hℓ k hk, hv k hk]

theorem attn_congr {J : Type*} (S : Finset J) (ℓ ℓ' : J → ℝ) (v v' : J → EReal) (hℓ : ∀ j ∈ S, ℓ j = ℓ' j) (hv : ∀ j ∈ S, v j = v' j) :
    attn S ℓ v = attn S ℓ' v' := by
  unfold attn
  rw [Finset.sum_congr rfl fun k hk => congrArg Real.exp (hℓ k hk)]
  exact Finset.sum_congr rfl fun k hk => by rw [hℓ k hk, hv k hk]

/-- Weights `exp (ℓ j - μ)` on the keys of `S` and none elsewhere: the weighted sum of the values over the sum of the
    weights is the attention, whatever the shift. -/
theorem attn_weights {J : Type*} [Fintype J] [DecidableEq J] (S : Finset J) (hS : S.Nonempty) (ℓ : J → ℝ) (μ : ℝ) (p : J → EReal)
    (hp : ∀ j, p j = if j ∈ S then ((Real.exp (ℓ j - μ) : ℝ) : EReal) else 0) (v : J → EReal) :
    (∑ j, p j = ((∑ j ∈ S, Real.exp (ℓ j - μ) : ℝ) : EReal))
      ∧ Ideal.div (∑ j, p j * v j) (∑ j, p j) = attn S ℓ v
      ∧ ∑ j, Ideal.div (p j) (∑ k, p k) * v j = attn S ℓ v := by
  have hZ : (0 : ℝ) < ∑ j ∈ S, Real.exp (ℓ j - μ) := Finset.sum_pos (fun j _ => Real.exp_pos _) hS
  have hs : ∑ j, p j = ((∑ j ∈ S, Real.exp (ℓ j - μ) : ℝ) : EReal) := by
    rw [coe_sum, Finset.sum_congr rfl fun j _ => hp j, Finset.sum_ite_mem, Finset.univ_inter]
  have hn : ∑ j, p j * v j = ∑ j ∈ S, ((Real.exp (ℓ j - μ) : ℝ) : EReal) * v j := by
    have : ∀ j, p j * v j = if j ∈ S then ((Real.exp (ℓ j - μ) : ℝ) : EReal) * v j else 0 := fun j => by
      rw [hp j]; split <;> simp
    rw [Finset.sum_congr rfl fun j _ => this j, Finset.sum_ite_mem, Finset.univ_inter]
  have hq : ∀ j, Real.exp (ℓ j - μ) / (∑ k ∈ S, Real.exp (ℓ k - μ)) = Real.exp (ℓ j) / ∑ k ∈ S, Real.exp (ℓ k) := fun j => by
    simp only [Real.exp_sub, ← Finset.sum_div]
    exact div_div_div_cancel_right₀ (Real.exp_pos μ).ne' _ _
  refine ⟨hs, ?_, ?_⟩
  · rw [hs, hn, div_coe _ hZ, sum_mul_coe _ _ _ (inv_nonneg.mpr hZ.le)]
    refine Finset.sum_congr rfl fun j _ => ?_
    rw [← hq j, div_eq_mul_inv, EReal.coe_mul, mul_right_comm]
  · have : ∀ j, Ideal.div (p j) (∑ k, p k) * v j
        = if j ∈ S then ((Real.exp (ℓ j) / ∑ k ∈ S, Real.exp (ℓ k) : ℝ) : EReal) * v j else 0 := fun j => by
      rw [hs, div_coe _ hZ, hp j]
      split
      · rw [← hq j, div_eq_mul_inv, EReal.coe_mul]
      · simp
    rw [Finset.sum_congr rfl fun j _ => this j, Finset.sum_ite_mem, Finset.univ_inter]
    rfl

/-- The greatest of a family that holds a real, and nothing above a real, is a real. -/
theorem isReal_fold_max {J : Type*} [Fintype J] (L : J → EReal) (h : ∀ j, IsReal (L j) ∨ L j = ⊥) (j₀ : J) (h₀ : IsReal (L j₀)) :
    IsReal (Finset.univ.fold max ⊥ L) := by
  have e : Finset.univ.fold max ⊥ L = Finset.univ.sup L := rfl
  rw [e]
  obtain ⟨j, -, hj⟩ := Finset.exists_mem_eq_sup Finset.univ ⟨j₀, Finset.mem_univ _⟩ L
  rw [hj]
  rcases h j with hr | hb
  · exact hr
  · exfalso
    have := Finset.le_sup (f := L) (Finset.mem_univ j₀)
    rw [hj, hb] at this
    obtain ⟨r, hr⟩ := h₀
    rw [hr] at this
    exact absurd (le_bot_iff.mp this) (EReal.coe_ne_bot r)

theorem exp_sub_coe (a b : ℝ) : Ideal.exp ((a : EReal) - (b : EReal)) = ((Real.exp (a - b) : ℝ) : EReal) := by
  rw [← EReal.coe_sub]; rfl

theorem exp_bot_sub (b : ℝ) : Ideal.exp (⊥ - (b : EReal)) = 0 := by
  rw [EReal.bot_sub]; rfl

/-- The kernels' attention: the scores less their greatest, exponentiated, times a factor that is one on the keys of `S` and
    zero elsewhere. -/
theorem attn_factor {J : Type*} [Fintype J] [DecidableEq J] (S : Finset J) (hS : S.Nonempty) (L : J → EReal) (ℓ : J → ℝ) (hL : ∀ j, L j = (ℓ j : EReal))
    (w : J → EReal) (hw : ∀ j, w j = if j ∈ S then 1 else 0) (v : J → EReal) :
    Ideal.div (∑ j, Ideal.exp (L j - Finset.univ.fold max ⊥ L) * w j * v j) (∑ j, Ideal.exp (L j - Finset.univ.fold max ⊥ L) * w j)
      = attn S ℓ v := by
  obtain ⟨j₀, h₀⟩ := hS
  obtain ⟨μ, hμ⟩ := isReal_fold_max L (fun j => .inl ⟨_, hL j⟩) j₀ ⟨_, hL j₀⟩
  refine (attn_weights S ⟨j₀, h₀⟩ ℓ μ (fun j => Ideal.exp (L j - Finset.univ.fold max ⊥ L) * w j) (fun j => ?_) v).2.1
  rw [hμ, hL j, hw j, exp_sub_coe]
  split <;> simp

/-- The reference's attention: a softmax of the scores, those outside `S` at minus infinity. -/
theorem attn_softmax {J : Type*} [Fintype J] [DecidableEq J] (S : Finset J) (hS : S.Nonempty) (L : J → EReal) (ℓ : J → ℝ)
    (hL : ∀ j, L j = if j ∈ S then (ℓ j : EReal) else ⊥) (v : J → EReal) :
    ∑ j, Ideal.div (Ideal.exp (L j - Finset.univ.fold max ⊥ L)) (∑ k, Ideal.exp (L k - Finset.univ.fold max ⊥ L)) * v j = attn S ℓ v := by
  obtain ⟨j₀, h₀⟩ := hS
  obtain ⟨μ, hμ⟩ := isReal_fold_max L (fun j => by rw [hL j]; split; exact .inl ⟨_, rfl⟩; exact .inr rfl) j₀ ⟨ℓ j₀, by rw [hL, if_pos h₀]⟩
  refine (attn_weights S ⟨j₀, h₀⟩ ℓ μ (fun j => Ideal.exp (L j - Finset.univ.fold max ⊥ L)) (fun j => ?_) v).2.2
  rw [hμ, hL j]
  split
  · exact exp_sub_coe _ _
  · exact exp_bot_sub _

end Cert.Attn

end
-- ==== Proof.Math.Pick.lean ====
/- The eighth greatest of a row, in the two ways the programs find it. -/
module

public import Idealize.ShloMosaic.PureOps.Ideal
public import Idealize.ShloMosaic.PureOps.Ideal.Laws
public import Idealize.ShloMosaic.Lib.SortFacts

@[expose] public section

noncomputable section

namespace Cert.Pick

open Idealize.ShloMosaic

variable {n : ℕ}

/-- At most seven entries of the row are above `k`, and at least eight are at or above it. -/
def IsEighth (x : Fin n → EReal) (k : EReal) : Prop :=
  (Finset.univ.filter fun j => k < x j).card ≤ 7 ∧ 8 ≤ (Finset.univ.filter fun j => k ≤ x j).card

/-- There is one such value. -/
theorem IsEighth.unique {x : Fin n → EReal} {k k' : EReal} (h : IsEighth x k) (h' : IsEighth x k') : k = k' := by
  have aux : ∀ {k k' : EReal}, IsEighth x k → IsEighth x k' → ¬ k < k' := fun {k k'} h h' hlt => by
    have : (Finset.univ.filter fun j => k' ≤ x j).card ≤ (Finset.univ.filter fun j => k < x j).card :=
      Finset.card_le_card fun j hj => by
        simp only [Finset.mem_filter, Finset.mem_univ, true_and] at hj ⊢
        exact lt_of_lt_of_le hlt hj
    have h1 := h.1; have h2 := h'.2; omega
  exact le_antisymm (not_lt.mp (aux h' h)) (not_lt.mp (aux h h'))

/-- One round: the greatest entry, its copies struck out, their number taken off what is still wanted. -/
def round (s : (Fin n → EReal) × EReal × EReal) : (Fin n → EReal) × EReal × EReal :=
  (fun j => if s.1 j = Finset.univ.fold max ⊥ s.1 then ⊥ else s.1 j,
    s.2.1 - ∑ j, (if s.1 j = Finset.univ.fold max ⊥ s.1 then 1 else 0),
    if 0 < s.2.1 then Finset.univ.fold max ⊥ s.1 else s.2.2)

/-- After some rounds: either the eighth greatest is found and nothing more is wanted, or the entries of `U` are struck
    out, all above the rest, fewer than eight and at least one a round. -/
def After (x : Fin n → EReal) (r : ℕ) (s : (Fin n → EReal) × EReal × EReal) : Prop :=
  (∃ z : ℤ, z ≤ 0 ∧ s.2.1 = ((z : ℝ) : EReal) ∧ IsEighth x s.2.2)
  ∨ (∃ U : Finset (Fin n), r ≤ U.card ∧ U.card < 8 ∧ (∀ j ∈ U, ⊥ < x j) ∧ (∀ j ∈ U, ∀ j', j' ∉ U → x j' < x j)
      ∧ (∀ j, s.1 j = if j ∈ U then ⊥ else x j) ∧ s.2.1 = (((8 - U.card : ℤ) : ℝ) : EReal))

theorem sum_ones (p : Fin n → Prop) [DecidablePred p] :
    ∑ j, (if p j then (1 : EReal) else 0) = (((Finset.univ.filter p).card : ℝ) : EReal) := by
  rw [← Finset.sum_filter]
  generalize Finset.univ.filter p = S
  induction S using Finset.induction_on with
  | empty => simp
  | insert a S ha ih =>
    rw [Finset.sum_insert ha, ih, Finset.card_insert_of_notMem ha]
    push_cast
    rw [add_comm]

theorem sub_int (z : ℤ) (c : ℕ) : ((z : ℝ) : EReal) - ((c : ℝ) : EReal) = (((z - c : ℤ) : ℝ) : EReal) := by
  rw [← EReal.coe_sub]; push_cast; rfl

theorem after_round (x : Fin n → EReal) (hn : 8 ≤ n) (r : ℕ) (s : (Fin n → EReal) × EReal × EReal) (h : After x r s) :
    After x (r + 1) (round s) := by
  obtain ⟨v, rem, thr⟩ := s
  rcases h with ⟨z, hz, hrem, hthr⟩ | ⟨U, hr, h8, hpos, hup, hv, hrem⟩
  · left
    simp only at hrem hthr
    refine ⟨z - (Finset.univ.filter fun j => v j = Finset.univ.fold max ⊥ v).card, by omega, ?_, ?_⟩
    · simp only [round]
      rw [sum_ones, hrem, sub_int]
    · simp only [round]
      rw [if_neg (by rw [hrem]; exact not_lt.mpr (EReal.coe_nonpos.mpr (by exact_mod_cast hz)))]
      exact hthr
  · simp only at hv hrem
    have hpos8 : (0 : EReal) < rem := by
      rw [hrem]; exact EReal.coe_pos.mpr (by exact_mod_cast (by omega : (0 : ℤ) < 8 - U.card))
    set cur := Finset.univ.fold max ⊥ v with hcur
    have hsup : cur = Finset.univ.sup v := rfl
    have hle : ∀ j, v j ≤ cur := fun j => hsup ▸ Finset.le_sup (Finset.mem_univ j)
    have hxle : ∀ j, j ∉ U → x j ≤ cur := fun j hj => by have := hle j; rwa [hv j, if_neg hj] at this
    by_cases hb : cur = ⊥
    · left
      have hall : ∀ j, v j = cur := fun j => le_antisymm (hle j) (hb ▸ bot_le)
      have hf : (Finset.univ.filter fun j => v j = cur) = Finset.univ := by
        ext j; simp [hall j]
      refine ⟨8 - U.card - n, by omega, ?_, ?_⟩
      · simp only [round]
        rw [← hcur, sum_ones, hf, Finset.card_univ, Fintype.card_fin, hrem, sub_int]
      · simp only [round]
        rw [if_pos hpos8, ← hcur, hb]
        refine ⟨le_trans (Finset.card_le_card (t := U) fun j hj => ?_) (by omega), ?_⟩
        · by_contra hj'
          have := hxle j hj'
          rw [hb, le_bot_iff] at this
          simp [this] at hj
        · simpa using hn
    · have hUcur : ∀ j ∈ U, cur < x j := fun j hj => by
        obtain ⟨j', -, hj'⟩ := Finset.exists_mem_eq_sup Finset.univ ⟨j, Finset.mem_univ _⟩ v
        rw [← hsup] at hj'
        by_cases hm : j' ∈ U
        · exact absurd (hj'.trans (by rw [hv, if_pos hm])) hb
        · rw [hj', hv j', if_neg hm]; exact hup j hj j' hm
      have hvU : ∀ j, v j = cur ↔ j ∉ U ∧ x j = cur := fun j => by
        rw [hv j]
        by_cases hj : j ∈ U
        · simp [hj, Ne.symm hb]
        · simp [hj]
      set W := Finset.univ.filter fun j => v j = cur with hW
      have hdis : Disjoint U W := Finset.disjoint_left.mpr fun j hj hjw => by
        simp only [hW, Finset.mem_filter, Finset.mem_univ, true_and] at hjw
        exact ((hvU j).mp hjw).1 hj
      have hcard : (U ∪ W).card = U.card + W.card := Finset.card_union_of_disjoint hdis
      have hWpos : 0 < W.card := by
        have hne : (Finset.univ : Finset (Fin n)).Nonempty := ⟨⟨0, by omega⟩, Finset.mem_univ _⟩
        obtain ⟨j', -, hj'⟩ := Finset.exists_mem_eq_sup Finset.univ hne v
        exact Finset.card_pos.mpr ⟨j', by simp only [hW, Finset.mem_filter, Finset.mem_univ, true_and]; exact hj'.symm.trans hsup.symm⟩
      have hmem : ∀ j, j ∈ U ∪ W ↔ cur ≤ x j := fun j => by
        rw [Finset.mem_union]
        constructor
        · rintro (hj | hj)
          · exact (hUcur j hj).le
          · simp only [hW, Finset.mem_filter, Finset.mem_univ, true_and] at hj
            exact ((hvU j).mp hj).2.ge
        · intro hj
          by_cases hm : j ∈ U
          · exact .inl hm
          · right
            simp only [hW, Finset.mem_filter, Finset.mem_univ, true_and]
            exact (hvU j).mpr ⟨hm, le_antisymm (hxle j hm) hj⟩
      have hrem' : (round (v, rem, thr)).2.1 = (((8 - (U ∪ W).card : ℤ) : ℝ) : EReal) := by
        simp only [round]
        rw [← hcur, sum_ones, ← hW, hrem, sub_int, hcard]
        congr 2
        push_cast
        ring
      have hthr' : (round (v, rem, thr)).2.2 = cur := by
        simp only [round]
        rw [if_pos hpos8]
      by_cases hge : 8 ≤ (U ∪ W).card
      · left
        refine ⟨8 - (U ∪ W).card, by omega, hrem', ?_⟩
        rw [hthr']
        refine ⟨le_trans (Finset.card_le_card (t := U) fun j hj => ?_) (by omega), ?_⟩
        · simp only [Finset.mem_filter, Finset.mem_univ, true_and] at hj
          by_contra hm
          exact absurd (hxle j hm) (not_le.mpr hj)
        · refine le_trans hge (Finset.card_le_card fun j hj => ?_)
          simpa using (hmem j).mp hj
      · right
        refine ⟨U ∪ W, by omega, by omega, fun j hj => ?_, fun j hj j' hj' => ?_, fun j => ?_, hrem'⟩
        · exact lt_of_lt_of_le (bot_lt_iff_ne_bot.mpr hb) ((hmem j).mp hj)
        · exact lt_of_lt_of_le (not_le.mp fun h => hj' ((hmem j').mpr h)) ((hmem j).mp hj)
        · simp only [round]
          rw [← hcur, hv j]
          by_cases hm : j ∈ U
          · simp [hm, Ne.symm hb]
          · have hjW : j ∈ W ↔ x j = cur := by
              simp only [hW, Finset.mem_filter, Finset.mem_univ, true_and]
              rw [hvU j]; exact ⟨fun h => h.2, fun h => ⟨hm, h⟩⟩
            simp only [hm, if_false, Finset.mem_union, false_or, hjW]

/-- Eight rounds find the eighth greatest. -/
theorem eight_rounds (x : Fin n → EReal) (hn : 8 ≤ n) :
    IsEighth x (round^[8] (x, ((8 : ℝ) : EReal), ⊥)).2.2 := by
  have h0 : After x 0 (x, ((8 : ℝ) : EReal), ⊥) := .inr ⟨∅, by simp, by simp, by simp, by simp, by simp, by simp⟩
  have h : ∀ r, After x r (round^[r] (x, ((8 : ℝ) : EReal), ⊥)) := fun r => by
    induction r with
    | zero => exact h0
    | succ r ih => rw [Function.iterate_succ_apply']; exact after_round x hn r _ ih
  rcases h 8 with ⟨z, -, -, h⟩ | ⟨U, h1, h2, -⟩
  · exact h
  · omega

/-- So does a sort, greatest first, read at its eighth place. -/
theorem sort_eighth (x : Fin n → EReal) (hn : 7 < n) :
    IsEighth x (x (sortedFrom (fun k k' => FloatOps.cmpfTotal (F := Ideal) (φ := .f32) .gt (x k) (x k') == 1#1) ⟨7, hn⟩)) := by
  set B : Fin n → Fin n → Bool := fun k k' => FloatOps.cmpfTotal (F := Ideal) (φ := .f32) .gt (x k) (x k') == 1#1 with hB
  have hBt : ∀ a b, B a b = decide (x b < x a) := fun a b => by
    simp only [hB, Ideal.cmpfTotal_def]
    show (BitVec.ofBool (decide (x b < x a)) == 1#1) = _
    cases decide (x b < x a) <;> rfl
  have hord : ∀ i j : Fin n, i ≤ j → x (sortedFrom B j) ≤ x (sortedFrom B i) := fun i j hij => by
    rcases hij.eq_or_lt with rfl | hlt
    · exact le_refl _
    · have := sortedFrom_noInversion B B (fun a b h => by rw [hBt] at h ⊢; simp at h ⊢; exact h.le) (fun a b h => h)
        (fun a b c h h' => by rw [hBt] at h h' ⊢; simp at h h' ⊢; exact h.trans h') i j hlt
      rw [hBt] at this
      simpa using this
  have hbij : Function.Bijective (sortedFrom B) := ⟨sortedFrom_injective B, sortedFrom_surjective B⟩
  have hcard : ∀ p : Fin n → Prop, ∀ [DecidablePred p], (Finset.univ.filter p).card = (Finset.univ.filter fun i => p (sortedFrom B i)).card := fun p _ => by
    refine (Finset.card_bij (fun i _ => sortedFrom B i) (fun i hi => by simpa using hi) (fun i _ j _ h => hbij.1 h) (fun j hj => ?_)).symm
    obtain ⟨i, rfl⟩ := hbij.2 j
    exact ⟨i, by simpa using hj, rfl⟩
  constructor
  · rw [hcard]
    have : (Finset.univ.filter fun i : Fin n => x (sortedFrom B ⟨7, hn⟩) < x (sortedFrom B i)) ⊆ Finset.univ.filter fun i : Fin n => i < ⟨7, hn⟩ := fun i hi => by
      simp only [Finset.mem_filter, Finset.mem_univ, true_and] at hi ⊢
      by_contra h
      exact absurd (hord _ _ (not_lt.mp h)) (not_le.mpr hi)
    refine (Finset.card_le_card this).trans ?_
    rw [show (Finset.univ.filter fun i : Fin n => i < ⟨7, hn⟩) = Finset.Iio ⟨7, hn⟩ from by ext; simp, Fin.card_Iio]
  · rw [hcard]
    have : (Finset.univ.filter fun i : Fin n => i ≤ ⟨7, hn⟩) ⊆ Finset.univ.filter fun i : Fin n => x (sortedFrom B ⟨7, hn⟩) ≤ x (sortedFrom B i) := fun i hi => by
      simp only [Finset.mem_filter, Finset.mem_univ, true_and] at hi ⊢
      exact hord _ _ hi
    refine le_trans ?_ (Finset.card_le_card this)
    rw [show (Finset.univ.filter fun i : Fin n => i ≤ ⟨7, hn⟩) = Finset.Iic ⟨7, hn⟩ from by ext; simp, Fin.card_Iic]

end Cert.Pick

end
-- ==== Proof.Math.Words.lean ====
/- The programs' word arithmetic on positions, read as arithmetic of natural numbers. -/
module

public import Idealize.ShloMosaic.PureOps.Ideal
public import Idealize.ShloMosaic.PureOps.Ideal.Laws
public import Idealize.ShloMosaic.Lib.WordCmp

@[expose] public section

noncomputable section

namespace Cert.Words

open Idealize.ShloMosaic

/-- The positions a row attends to by itself: it and the 511 before it. -/
def win (s : ℕ) : Finset (Fin 2048) := Finset.univ.filter fun j => j.val ≤ s ∧ s - j.val < 512

theorem mem_win {s : ℕ} {j : Fin 2048} : j ∈ win s ↔ j.val ≤ s ∧ s - j.val < 512 := by simp [win]

/-- The chunks a row may take: those that lie wholly before its window. -/
def old (s c : ℕ) : Prop := 64 * c + 575 ≤ s

instance (s c : ℕ) : Decidable (old s c) := inferInstanceAs (Decidable (_ ≤ _))

/-- A difference of two small words, signed. -/
theorem toInt_sub {a b : ℕ} (ha : a < 2 ^ 30) (hb : b < 2 ^ 30) :
    (BitVec.ofNat 32 a - BitVec.ofNat 32 b).toInt = (a : ℤ) - b := by
  rw [BitVec.toInt_sub, WordCmp.toInt_ofNat_of_lt (by omega), WordCmp.toInt_ofNat_of_lt (by omega)]
  exact Int.bmod_eq_of_le (by norm_num; omega) (by norm_num; omega)

/-- The bit of the window. -/
theorem win_bit {a j : ℕ} (ha : a < 2048) (hj : j < 2048) :
    IntOp.andi (IntOp.cmpi .sle (BitVec.ofNat 32 j) (BitVec.ofNat 32 a))
        (IntOp.cmpi .slt (IntOp.subi (BitVec.ofNat 32 a) (BitVec.ofNat 32 j)) 512#32)
      = BitVec.ofBool (decide (j ≤ a ∧ a - j < 512)) := by
  have h1 : IntOp.cmpi .sle (BitVec.ofNat 32 j) (BitVec.ofNat 32 a) = BitVec.ofBool (decide (j ≤ a)) := by
    show BitVec.ofBool (BitVec.sle _ _) = _
    rw [BitVec.sle, WordCmp.toInt_ofNat_of_lt (by omega), WordCmp.toInt_ofNat_of_lt (by omega)]
    congr 2; simp
  have h2 : IntOp.cmpi .slt (IntOp.subi (BitVec.ofNat 32 a) (BitVec.ofNat 32 j)) 512#32 = BitVec.ofBool (decide ((a : ℤ) - j < 512)) := by
    show BitVec.ofBool (BitVec.slt (BitVec.ofNat 32 a - BitVec.ofNat 32 j) _) = _
    rw [BitVec.slt, toInt_sub (by omega) (by omega)]
    rfl
  rw [h1, h2]
  have e : (decide (j ≤ a ∧ a - j < 512)) = (decide (j ≤ a) && decide ((a : ℤ) - j < 512)) := by
    rw [← Bool.decide_and]
    congr 1
    refine propext ⟨fun h => ⟨h.1, by omega⟩, fun h => ⟨h.1, by omega⟩⟩
  rw [e]
  cases decide (j ≤ a) <;> cases decide ((a : ℤ) - j < 512) <;> rfl

/-- A bit, widened and read as a number. -/
theorem bit_num (p : Prop) [Decidable p] :
    FloatOps.sitofp (F := Ideal) FTy.f32 (BitVec.setWidth 32 (BitVec.ofBool (decide p))) = if p then 1 else 0 := by
  by_cases h : p
  · rw [if_pos h, decide_eq_true h]; show (((1#32).toInt : ℝ) : EReal) = 1; norm_num
  · rw [if_neg h, decide_eq_false h]; show (((0#32).toInt : ℝ) : EReal) = 0; norm_num

/-- The constant 1/8 of the scores, and the constants 64 and 1/64 of the means. -/
theorem eighth : Ideal.ofBits .f32 0x3E000000#32 = ((1 / 8 : ℝ) : EReal) := by
  simp only [Ideal.ofBits]; simp [Ideal.ieee, -EReal.coe_mul]; norm_num
theorem sixtyfourth : Ideal.ofBits .f32 0x3C800000#32 = ((1 / 64 : ℝ) : EReal) := by
  simp only [Ideal.ofBits]; simp [Ideal.ieee, -EReal.coe_mul]; norm_num
theorem sixtyfour : Ideal.ofBits .f32 0x42800000#32 = ((64 : ℝ) : EReal) := by
  simp only [Ideal.ofBits]; simp [Ideal.ieee, -EReal.coe_mul]; norm_num
theorem eight : Ideal.ofBits .f32 0x41000000#32 = ((8 : ℝ) : EReal) := by
  simp only [Ideal.ofBits]; simp [Ideal.ieee, -EReal.coe_mul]; norm_num
theorem minus_inf : Ideal.ofBits .f32 0xFF800000#32 = ⊥ := by
  simp [Ideal.ofBits, Ideal.ieee]
theorem plus_inf : Ideal.ofBits .f32 0x7F800000#32 = ⊤ := by
  simp [Ideal.ofBits, Ideal.ieee]

end Cert.Words

end
-- ==== Proof.Math.Keys.lean ====
/- The keys that a row of compressed attention takes. -/
module

public import proofs.«01_k».proof.Proof.Math.Pick
public import proofs.«01_k».proof.Proof.Math.Words

@[expose] public section

noncomputable section

namespace Cert.Words

open Idealize.ShloMosaic Cert.Pick

/-- The scores of a row against the chunk means, minus infinity at the chunks it may not take. -/
def masked (s : ℕ) (σ : Fin 32 → EReal) (c : Fin 32) : EReal := if old s c.val then σ c else ⊥

/-- The eighth greatest. -/
def eighthOf (x : Fin 32 → EReal) : EReal := (Pick.round^[8] (x, ((8 : ℝ) : EReal), ⊥)).2.2

theorem eighthOf_eq (x : Fin 32 → EReal) (k : EReal) (h : IsEighth x k) : k = eighthOf x :=
  h.unique (eight_rounds x (by decide))

/-- A chunk is taken when its score is no less than the eighth greatest. -/
def taken (s : ℕ) (σ : Fin 32 → EReal) (c : Fin 32) : Prop := eighthOf (masked s σ) ≤ masked s σ c ∧ old s c.val

/-- The chunk of a position. -/
def chunk (j : Fin 2048) : Fin 32 := ⟨j.val / 64, by omega⟩

open Classical in
/-- The keys of a row: the window and the taken chunks. -/
def keys (s : ℕ) (σ : Fin 32 → EReal) : Finset (Fin 2048) := Finset.univ.filter fun j => j ∈ win s ∨ taken s σ (chunk j)

theorem mem_keys {s : ℕ} {σ : Fin 32 → EReal} {j : Fin 2048} : j ∈ keys s σ ↔ j ∈ win s ∨ taken s σ (chunk j) := by simp [keys]

theorem self_mem_win (s : Fin 2048) : s ∈ win s.val := by rw [mem_win]; omega

theorem win_nonempty (s : Fin 2048) : (win s.val).Nonempty := ⟨s, self_mem_win s⟩

theorem keys_nonempty (s : Fin 2048) (σ : Fin 32 → EReal) : (keys s.val σ).Nonempty := ⟨s, mem_keys.mpr (.inl (self_mem_win s))⟩

end Cert.Words

end
-- ==== Proof.Math.Spec.lean ====
/- The layer's result as one formula in the queries, keys and values of its heads. -/
module

public import proofs.«01_k».proof.Proof.Math.Soft
public import proofs.«01_k».proof.Proof.Math.Keys

@[expose] public section

noncomputable section

namespace Cert.Attn

open Idealize.ShloMosaic Cert.Words

/-- The scores of a query against the keys, as reals. -/
def score (Q : Fin 64 → EReal) (K : Fin 2048 → Fin 64 → EReal) (j : Fin 2048) : ℝ := ((∑ x, Q x * K j x) * ((1 / 8 : ℝ) : EReal)).toReal

theorem coe_score {Q : Fin 64 → EReal} {K : Fin 2048 → Fin 64 → EReal} (hQ : ∀ x, IsReal (Q x)) (hK : ∀ j x, IsReal (K j x)) (j : Fin 2048) :
    (∑ x, Q x * K j x) * ((1 / 8 : ℝ) : EReal) = (score Q K j : EReal) := by
  obtain ⟨r, hr⟩ := (IsReal.sum (S := Finset.univ) fun x _ => (hQ x).mul (hK j x)).mul (IsReal.coe (1 / 8))
  unfold score; rw [hr]; rfl

/-- The position `t` of chunk `c`. -/
def inChunk (c : Fin 32) (t : Fin 64) : Fin 2048 := ⟨64 * c.val + t.val, by omega⟩

/-- The mean of a chunk's keys. -/
def mean (K : Fin 2048 → Fin 64 → EReal) (c : Fin 32) (x : Fin 64) : EReal := (∑ t, K (inChunk c t) x) * ((1 / 64 : ℝ) : EReal)

/-- A sum over the positions of one chunk. -/
theorem sum_chunk (c : Fin 32) (f : Fin 2048 → EReal) : (∑ j, if c = chunk j then f j else 0) = ∑ t, f (inChunk c t) := by
  rw [← Finset.sum_filter]
  symm
  refine Finset.sum_bij (fun t _ => inChunk c t) (fun t _ => ?_) (fun t _ t' _ h => ?_) (fun j hj => ?_) (fun t _ => rfl)
  · rw [Finset.mem_filter]; exact ⟨Finset.mem_univ _, Fin.ext (by unfold chunk inChunk; simp only; omega)⟩
  · have := congrArg Fin.val h; unfold inChunk at this; exact Fin.ext (by simp only at this; omega)
  · rw [Finset.mem_filter] at hj
    have := congrArg Fin.val hj.2; unfold chunk at this; simp only at this
    exact ⟨⟨j.val % 64, by omega⟩, Finset.mem_univ _, Fin.ext (by unfold inChunk; simp only; omega)⟩

/-- The scores of a query against the chunk means. -/
def meanScore (Q : Fin 64 → EReal) (K : Fin 2048 → Fin 64 → EReal) (c : Fin 32) : EReal := (∑ x, Q x * mean K c x) * ((1 / 8 : ℝ) : EReal)

/-- The group of keys and values a head reads. -/
def grp (h : Fin 16) : Fin 4 := ⟨h.val / 4, by omega⟩

/-- One head at one position: the first twelve attend to the window, the last four to the window and the chunks they take. -/
def headVal (q : Fin 16 → Fin 2048 → Fin 64 → EReal) (k v : Fin 4 → Fin 2048 → Fin 64 → EReal) (s : Fin 2048) (h : Fin 16) (d : Fin 64) : EReal :=
  attn (if h.val < 12 then win s.val else keys s.val (meanScore (q h s) (k (grp h)))) (score (q h s) (k (grp h))) (fun j => v (grp h) j d)

/-- The layer's result at one position and one output column, whose weights are `o`. -/
def outVal (q : Fin 16 → Fin 2048 → Fin 64 → EReal) (k v : Fin 4 → Fin 2048 → Fin 64 → EReal) (s : Fin 2048) (o : Fin 1024 → EReal) : EReal :=
  ∑ x : Fin 1024, headVal q k v s ⟨x.val / 64, by omega⟩ ⟨x.val % 64, by omega⟩ * o x

/-- The planes of the projections that hold each head's queries, and each group's keys and values. -/
def qp (h : Fin 16) : Fin 24 := if hh : h.val < 12 then ⟨h.val, by omega⟩ else ⟨h.val + 6, by omega⟩
def kp (g : Fin 4) : Fin 24 := if hh : g.val < 3 then ⟨g.val + 12, by omega⟩ else 22
def vp (g : Fin 4) : Fin 24 := if hh : g.val < 3 then ⟨g.val + 15, by omega⟩ else 23

end Cert.Attn

end
-- ==== Proof.Math.Heads.lean ====
/- The heads' queries, keys and values as formulas in the layer's inputs: projection, root-mean-square scaling, rotation. -/
module

public import proofs.«01_k».proof.Proof.Math.Spec

@[expose] public section

noncomputable section

namespace Cert.Attn

open Idealize.ShloMosaic Cert.Words

/-- The small number added to a mean square. -/
abbrev eps : EReal := Ideal.ofBits FTy.f32 897988541#32
/-- The number of lanes of a head. -/
abbrev lanes : EReal := Ideal.ofBits FTy.f32 1115684864#32

/-- A row over its root mean square, lane by lane times a weight. -/
def normed (y w : Fin 64 → EReal) (x : Fin 64) : EReal := y x * Ideal.rsqrt (Ideal.div (∑ t, y t * y t) lanes + eps) * w x

/-- The rotation of the two halves of a row. -/
def rope (z c s : Fin 64 → EReal) (x : Fin 64) : EReal :=
  z x * c x + (if h : x.val < 32 then -z ⟨32 + x.val, by omega⟩ else z ⟨x.val - 32, by omega⟩) * s x

/-- The inner product of two rows. -/
def lin (a b : Fin 1024 → EReal) : EReal := ∑ k, a k * b k

/-- What the heads are computed from. -/
structure Ins where
  a : Fin 2048 → Fin 1024 → EReal
  wq : Fin 768 → Fin 1024 → EReal
  wk : Fin 192 → Fin 1024 → EReal
  wv : Fin 192 → Fin 1024 → EReal
  uq : Fin 256 → Fin 1024 → EReal
  uk : Fin 64 → Fin 1024 → EReal
  uv : Fin 64 → Fin 1024 → EReal
  cs : Fin 2048 → Fin 64 → EReal
  sn : Fin 2048 → Fin 64 → EReal
  qn : Fin 64 → EReal
  kn : Fin 64 → EReal

namespace Ins
variable (I : Ins)

/-- The weight rows of a head. -/
def rowQ (h : Fin 16) (x : Fin 64) : Fin 1024 → EReal := if c : h.val < 12 then I.wq ⟨64 * h.val + x.val, by omega⟩ else I.uq ⟨64 * (h.val - 12) + x.val, by omega⟩
def rowK (g : Fin 4) (x : Fin 64) : Fin 1024 → EReal := if c : g.val < 3 then I.wk ⟨64 * g.val + x.val, by omega⟩ else I.uk x
def rowV (g : Fin 4) (x : Fin 64) : Fin 1024 → EReal := if c : g.val < 3 then I.wv ⟨64 * g.val + x.val, by omega⟩ else I.uv x

/-- Query head `h`, key head `g` and value head `g` at position `s`. -/
def q (h : Fin 16) (s : Fin 2048) (x : Fin 64) : EReal := rope (normed (fun t => lin (I.a s) (I.rowQ h t)) I.qn) (I.cs s) (I.sn s) x
def k (g : Fin 4) (s : Fin 2048) (x : Fin 64) : EReal := rope (normed (fun t => lin (I.a s) (I.rowK g t)) I.kn) (I.cs s) (I.sn s) x
def v (g : Fin 4) (s : Fin 2048) (x : Fin 64) : EReal := lin (I.a s) (I.rowV g x)

/-- The planes of the array of projections. -/
def plane (p : Fin 24) (s : Fin 2048) (x : Fin 64) : EReal :=
  if c1 : p.val < 12 then I.q ⟨p.val, by omega⟩ s x else if c2 : p.val < 15 then I.k ⟨p.val - 12, by omega⟩ s x
  else if c3 : p.val < 18 then I.v ⟨p.val - 15, by omega⟩ s x else if c4 : p.val < 22 then I.q ⟨p.val - 6, by omega⟩ s x
  else if p.val = 22 then I.k 3 s x else I.v 3 s x

theorem plane_qp (h : Fin 16) : I.plane (qp h) = I.q h := by fin_cases h <;> rfl
theorem plane_kp (g : Fin 4) : I.plane (kp g) = I.k g := by fin_cases g <;> rfl
theorem plane_vp (g : Fin 4) : I.plane (vp g) = I.v g := by fin_cases g <;> rfl

/-- The inputs are real numbers. -/
structure Real : Prop where
  a : ∀ s k, IsReal (I.a s k)
  wq : ∀ n k, IsReal (I.wq n k)
  wk : ∀ n k, IsReal (I.wk n k)
  uq : ∀ n k, IsReal (I.uq n k)
  uk : ∀ n k, IsReal (I.uk n k)
  cs : ∀ s x, IsReal (I.cs s x)
  sn : ∀ s x, IsReal (I.sn s x)
  qn : ∀ x, IsReal (I.qn x)
  kn : ∀ x, IsReal (I.kn x)
end Ins

theorem eps_pos : ∃ r : ℝ, 0 < r ∧ eps = (r : EReal) := by
  refine ⟨_, ?_, by simp only [eps, Ideal.ofBits]; simp [Ideal.ieee, -EReal.coe_mul]; rfl⟩
  norm_num

theorem lanes_eq : lanes = ((64 : ℝ) : EReal) := sixtyfour

theorem lin_real {a b : Fin 1024 → EReal} (ha : ∀ k, IsReal (a k)) (hb : ∀ k, IsReal (b k)) : IsReal (lin a b) :=
  IsReal.sum fun k _ => (ha k).mul (hb k)

theorem normed_real {y w : Fin 64 → EReal} (hy : ∀ x, IsReal (y x)) (hw : ∀ x, IsReal (w x)) (x : Fin 64) : IsReal (normed y w x) := by
  obtain ⟨e, he, hE⟩ := eps_pos
  choose f hf using hy
  have h1 : ∑ t, y t * y t = ((∑ t, f t * f t : ℝ) : EReal) := by
    rw [coe_sum]; exact Finset.sum_congr rfl fun t _ => by rw [hf]; exact (EReal.coe_mul _ _).symm
  have h2 : IsReal (Ideal.rsqrt (Ideal.div (∑ t, y t * y t) lanes + eps)) := by
    rw [h1, lanes_eq, hE, div_coe _ (by norm_num), ← EReal.coe_mul, ← EReal.coe_add, Ideal.rsqrt_coe]
    have h3 : 0 < (∑ t, f t * f t) * (64 : ℝ)⁻¹ + e := by
      have : 0 ≤ ∑ t, f t * f t := Finset.sum_nonneg fun t _ => mul_self_nonneg _
      positivity
    rw [if_neg (not_lt.mpr h3.le), if_neg h3.ne']
    exact ⟨_, rfl⟩
  exact (IsReal.mul ⟨f x, hf x⟩ h2).mul (hw x)

theorem rope_real {z c s : Fin 64 → EReal} (hz : ∀ x, IsReal (z x)) (hc : ∀ x, IsReal (c x)) (hs : ∀ x, IsReal (s x)) (x : Fin 64) : IsReal (rope z c s x) := by
  refine ((hz x).mul (hc x)).add (IsReal.mul ?_ (hs x))
  by_cases h : x.val < 32
  · rw [dif_pos h]; exact (hz _).neg
  · rw [dif_neg h]; exact hz _

theorem Ins.q_real {I : Ins} (H : I.Real) (h : Fin 16) (s : Fin 2048) (x : Fin 64) : IsReal (I.q h s x) :=
  rope_real (normed_real (fun t => lin_real (H.a s) (fun k => by
    unfold Ins.rowQ
    by_cases c : h.val < 12
    · rw [dif_pos c]; exact H.wq _ _
    · rw [dif_neg c]; exact H.uq _ _)) H.qn) (H.cs s) (H.sn s) x

theorem Ins.k_real {I : Ins} (H : I.Real) (g : Fin 4) (s : Fin 2048) (x : Fin 64) : IsReal (I.k g s x) :=
  rope_real (normed_real (fun t => lin_real (H.a s) (fun k => by
    unfold Ins.rowK
    by_cases c : g.val < 3
    · rw [dif_pos c]; exact H.wk _ _
    · rw [dif_neg c]; exact H.uk _ _)) H.kn) (H.cs s) (H.sn s) x

end Cert.Attn

end
-- ==== Proof.Ki.Planes.lean ====
/- The projection call: the block it writes, at an index. -/
module

public import proofs.«01_k».proof.Proof.Ki.Proj
public import proofs.«01_k».proof.Proof.Math.Heads
public import Idealize.ShloMosaic.Lib.Pointwise
public import Idealize.ShloMosaic.Lib.Pipeline.ValueKit

@[expose] public section

set_option maxRecDepth 16384

noncomputable section

namespace Cert.KernelIdeal.Own

open Cert.KernelIdeal.Gen
open Idealize.ShloMosaic Idealize.ShloMosaic.Tactic
open Cert.Attn Cert.Words

/-- Scaling and rotation of one head. -/
theorem head_at (y c s : FVec Ideal S256x64 .f32) (w : FVec Ideal S1x64 .f32) (r : Fin 256) (x : Fin 64) :
    k0_pay38 y c s w (ix3 0 r x) = rope (normed (fun t => y (ix2 r t)) (fun t => w (ix2 0 t))) (fun t => c (ix2 r t)) (fun t => s (ix2 r t)) x := by
  unfold_payloads; pointwise
  simp only [zero_sub]
  rfl

/-- The lanes of one head in a projection of all. -/
theorem seg_q (a : Vec Ideal S256x1024 .f32) (w : Vec Ideal S768x1024 .f32) (o : Fin 2 → ℕ) (h : ℕ) (hh : h < 12) (hs) (ho : o = ![0, 64 * h]) (r : Fin 256) (x : Fin 64) :
    extractStridedSlice S256x64 o (k0_pay2 a w) hs (ix2 r x) = lin (fun k => a (ix2 r k)) (fun k => w (ix2 ⟨64 * h + x.val, by omega⟩ k)) := by
  subst ho; unfold_payloads; pointwise; rfl
theorem seg_k (a : Vec Ideal S256x1024 .f32) (w : Vec Ideal S192x1024 .f32) (o : Fin 2 → ℕ) (h : ℕ) (hh : h < 3) (hs) (ho : o = ![0, 64 * h]) (r : Fin 256) (x : Fin 64) :
    extractStridedSlice S256x64 o (k0_pay15 a w) hs (ix2 r x) = lin (fun k => a (ix2 r k)) (fun k => w (ix2 ⟨64 * h + x.val, by omega⟩ k)) := by
  subst ho; unfold_payloads; pointwise; rfl
theorem seg_u (a : Vec Ideal S256x1024 .f32) (w : Vec Ideal S256x1024 .f32) (o : Fin 2 → ℕ) (h : ℕ) (hh : h < 4) (hs) (ho : o = ![0, 64 * h]) (r : Fin 256) (x : Fin 64) :
    extractStridedSlice S256x64 o (k0_pay23 a w) hs (ix2 r x) = lin (fun k => a (ix2 r k)) (fun k => w (ix2 ⟨64 * h + x.val, by omega⟩ k)) := by
  subst ho; unfold_payloads; pointwise; rfl
theorem seg_1 (a : Vec Ideal S256x1024 .f32) (w : Vec Ideal S64x1024 .f32) (r : Fin 256) (x : Fin 64) :
    k0_pay28 a w (ix2 r x) = lin (fun k => a (ix2 r k)) (fun k => w (ix2 x k)) := by
  unfold_payloads; pointwise; rfl
theorem plain_at (y : FVec Ideal S256x64 .f32) (r : Fin 256) (x : Fin 64) : k0_pay69 y (ix3 0 r x) = y (ix2 r x) := by
  unfold_payloads; pointwise

/-- A block loaded whole. -/
theorem whole0 (x : Vec Ideal S256x1024 .f32) : View.ld x r0_0 = x := View.ld_unit_lit _ _ (by decide)
theorem whole1 (x : Vec Ideal S768x1024 .f32) : View.ld x r0_1 = x := View.ld_unit_lit _ _ (by decide)
theorem whole2 (x : Vec Ideal S192x1024 .f32) : View.ld x r0_2 = x := View.ld_unit_lit _ _ (by decide)
theorem whole3 (x : Vec Ideal S64x1024 .f32) : View.ld x r0_3 = x := View.ld_unit_lit _ _ (by decide)
theorem whole4 (x : Vec Ideal S256x64 .f32) : View.ld x r0_4 = x := View.ld_unit_lit _ _ (by decide)
theorem whole5 (x : Vec Ideal S1x64 .f32) : View.ld x r0_5 = x := View.ld_unit_lit _ _ (by decide)
theorem cs_at (x : Vec Ideal S256x64 .f32) (r : Fin 256) (d : Fin 64) : k0_pay30 x (ix2 r d) = x (ix2 r d) := by unfold_payloads; pointwise
theorem qn_at (x : Vec Ideal S1x64 .f32) (d : Fin 64) : k0_pay32 x (ix2 0 d) = x (ix2 0 d) := by unfold_payloads; pointwise

/-- A stored plane at an index. -/
theorem plane_tile (k : ℕ) (w : Vec Ideal S1x256x64 .f32) (p : Fin 24) (r : Fin 256) (x : Fin 64) (v : EReal)
    (h : p.val = k → w (ix3 0 r x) = v) : View.TileAt (Val := Elt Ideal) (S := S24x256x64) (e := .f32) (ix3 p r x) ![k, 0, 0] S1x256x64.size w v := by
  intro z hz
  have h0 : p.val = k + (z 0).val := hz 0
  have h1 : r.val = 0 + (z 1).val := hz 1
  have h2 : x.val = 0 + (z 2).val := hz 2
  have hz0 : (z 0).val < 1 := (z 0).isLt
  rw [← h (by omega)]
  congr 1
  funext a
  fin_cases a
  · exact Fin.ext (by show (z 0).val = 0; omega)
  · exact Fin.ext (by show (z 1).val = r.val; omega)
  · exact Fin.ext (by show (z 2).val = x.val; omega)

variable {x0 : Vec Ideal S256x1024 .f32} {x1 : Vec Ideal S768x1024 .f32} {x2 x3 : Vec Ideal S192x1024 .f32} {x4 : Vec Ideal S256x1024 .f32}
  {x5 x6 : Vec Ideal S64x1024 .f32} {x7 x8 : Vec Ideal S256x64 .f32} {x9 x10 : Vec Ideal S1x64 .f32}

variable (x0 x1 x2 x3 x4 x5 x6 x7 x8 x9 x10) in
/-- One step's blocks, row `r` of it at position `s`. -/
structure Blocks (I : Ins) (r : Fin 256) (s : Fin 2048) : Prop where
  a : ∀ k, x0 (ix2 r k) = I.a s k
  wq : ∀ n k, x1 (ix2 n k) = I.wq n k
  wk : ∀ n k, x2 (ix2 n k) = I.wk n k
  wv : ∀ n k, x3 (ix2 n k) = I.wv n k
  uq : ∀ n k, x4 (ix2 n k) = I.uq n k
  uk : ∀ n k, x5 (ix2 n k) = I.uk n k
  uv : ∀ n k, x6 (ix2 n k) = I.uv n k
  cs : ∀ x, x7 (ix2 r x) = I.cs s x
  sn : ∀ x, x8 (ix2 r x) = I.sn s x
  qn : ∀ x, x9 (ix2 0 x) = I.qn x
  kn : ∀ x, x10 (ix2 0 x) = I.kn x

section
variable {I : Ins} {r : Fin 256} {s : Fin 2048} (B : Blocks x0 x1 x2 x3 x4 x5 x6 x7 x8 x9 x10 I r s)
include B

theorem q_leaf (h : Fin 16) (hh : h.val < 12) (o : Fin 2 → ℕ) (hs) (ho : o = ![0, 64 * h.val]) (x : Fin 64) :
    k0_pay38 (extractStridedSlice S256x64 o (k0_pay2 (View.ld x0 r0_0) (View.ld x1 r0_1)) hs) (k0_pay30 (View.ld x7 r0_4)) (k0_pay31 (View.ld x8 r0_4)) (k0_pay32 (View.ld x9 r0_5)) (ix3 0 r x)
      = I.q h s x := by
  have e31 : ∀ x', k0_pay31 (F := Ideal) x' = k0_pay30 x' := fun _ => rfl
  rw [head_at, whole0, whole1, whole4, whole4, whole5, e31]
  unfold Ins.q Ins.rowQ
  simp only [seg_q _ _ o _ hh hs ho, cs_at, qn_at, dif_pos hh, B.a, B.wq, B.cs, B.sn, B.qn]

theorem u_leaf (h : Fin 16) (j : ℕ) (hj : j < 4) (hh : h.val = j + 12) (o : Fin 2 → ℕ) (hs) (ho : o = ![0, 64 * j]) (x : Fin 64) :
    k0_pay38 (extractStridedSlice S256x64 o (k0_pay23 (View.ld x0 r0_0) (View.ld x4 r0_0)) hs) (k0_pay30 (View.ld x7 r0_4)) (k0_pay31 (View.ld x8 r0_4)) (k0_pay32 (View.ld x9 r0_5)) (ix3 0 r x)
      = I.q h s x := by
  have e31 : ∀ x', k0_pay31 (F := Ideal) x' = k0_pay30 x' := fun _ => rfl
  obtain rfl : j = h.val - 12 := by omega
  have hn : ¬ h.val < 12 := by omega
  rw [head_at, whole0, whole0, whole4, whole4, whole5, e31]
  unfold Ins.q Ins.rowQ
  simp only [seg_u _ _ o _ hj hs ho, cs_at, qn_at, dif_neg hn, B.a, B.uq, B.cs, B.sn, B.qn]

theorem k_leaf (g : Fin 4) (hg : g.val < 3) (o : Fin 2 → ℕ) (hs) (ho : o = ![0, 64 * g.val]) (x : Fin 64) :
    k0_pay38 (extractStridedSlice S256x64 o (k0_pay15 (View.ld x0 r0_0) (View.ld x2 r0_2)) hs) (k0_pay30 (View.ld x7 r0_4)) (k0_pay31 (View.ld x8 r0_4)) (k0_pay33 (View.ld x10 r0_5)) (ix3 0 r x)
      = I.k g s x := by
  have e31 : ∀ x', k0_pay31 (F := Ideal) x' = k0_pay30 x' := fun _ => rfl
  have e33 : ∀ x', k0_pay33 (F := Ideal) x' = k0_pay32 x' := fun _ => rfl
  rw [head_at, whole0, whole2, whole4, whole4, whole5, e31, e33]
  unfold Ins.k Ins.rowK
  simp only [seg_k _ _ o _ hg hs ho, cs_at, qn_at, dif_pos hg, B.a, B.wk, B.cs, B.sn, B.kn]

theorem k3_leaf (x : Fin 64) :
    k0_pay38 (k0_pay28 (View.ld x0 r0_0) (View.ld x5 r0_3)) (k0_pay30 (View.ld x7 r0_4)) (k0_pay31 (View.ld x8 r0_4)) (k0_pay33 (View.ld x10 r0_5)) (ix3 0 r x)
      = I.k 3 s x := by
  have e31 : ∀ x', k0_pay31 (F := Ideal) x' = k0_pay30 x' := fun _ => rfl
  have e33 : ∀ x', k0_pay33 (F := Ideal) x' = k0_pay32 x' := fun _ => rfl
  rw [head_at, whole0, whole3, whole4, whole4, whole5, e31, e33]
  have hn : ¬ (3 : Fin 4).val < 3 := by decide
  unfold Ins.k Ins.rowK
  simp only [seg_1, cs_at, qn_at, dif_neg hn, B.a, B.uk, B.cs, B.sn, B.kn]

theorem v_leaf (g : Fin 4) (hg : g.val < 3) (o : Fin 2 → ℕ) (hs) (ho : o = ![0, 64 * g.val]) (x : Fin 64) :
    k0_pay69 (extractStridedSlice S256x64 o (k0_pay15 (View.ld x0 r0_0) (View.ld x3 r0_2)) hs) (ix3 0 r x) = I.v g s x := by
  rw [plain_at, whole0, whole2, seg_k _ _ o _ hg hs ho]
  unfold Ins.v Ins.rowV
  simp only [dif_pos hg, B.a, B.wv]

theorem v3_leaf (x : Fin 64) : k0_pay69 (k0_pay28 (View.ld x0 r0_0) (View.ld x6 r0_3)) (ix3 0 r x) = I.v 3 s x := by
  have hn : ¬ (3 : Fin 4).val < 3 := by decide
  rw [plain_at, whole0, whole3, seg_1]
  unfold Ins.v Ins.rowV
  simp only [dif_neg hn, B.a, B.uv]

/-- The planes that one step writes. -/
theorem out0_at (p : Fin 24) (x : Fin 64) : out0_11 x0 x1 x2 x3 x4 x5 x6 x7 x8 x9 x10 (ix3 p r x) = I.plane p s x := by
  unfold out0_11
  refine View.canon_eq_of_allAt _ _ _ (cover0_11 _ _ _ _ _ _ _ _ _ _ _ _ _ _ _ _ _ _ _ _ _ _ _ _ _) ?_
  refine View.allAt_cons_unit _ _ _ _ _ (plane_tile 23 _ _ _ _ _ fun hp => ?_) ?_
  · obtain rfl : p = 23 := Fin.ext hp
    exact v3_leaf B x
  refine View.allAt_cons_unit _ _ _ _ _ (plane_tile 22 _ _ _ _ _ fun hp => ?_) ?_
  · obtain rfl : p = 22 := Fin.ext hp
    exact k3_leaf B x
  refine View.allAt_cons_unit _ _ _ _ _ (plane_tile 21 _ _ _ _ _ fun hp => ?_) ?_
  · obtain rfl : p = 21 := Fin.ext hp
    exact u_leaf B 15 3 (by decide) rfl ![0, 192] slices_S256x256_o0_192_S256x64 rfl x
  refine View.allAt_cons_unit _ _ _ _ _ (plane_tile 20 _ _ _ _ _ fun hp => ?_) ?_
  · obtain rfl : p = 20 := Fin.ext hp
    exact u_leaf B 14 2 (by decide) rfl ![0, 128] slices_S256x256_o0_128_S256x64 rfl x
  refine View.allAt_cons_unit _ _ _ _ _ (plane_tile 19 _ _ _ _ _ fun hp => ?_) ?_
  · obtain rfl : p = 19 := Fin.ext hp
    exact u_leaf B 13 1 (by decide) rfl ![0, 64] slices_S256x256_o0_64_S256x64 rfl x
  refine View.allAt_cons_unit _ _ _ _ _ (plane_tile 18 _ _ _ _ _ fun hp => ?_) ?_
  · obtain rfl : p = 18 := Fin.ext hp
    exact u_leaf B 12 0 (by decide) rfl ![0, 0] slices_S256x256_o0_0_S256x64 rfl x
  refine View.allAt_cons_unit _ _ _ _ _ (plane_tile 17 _ _ _ _ _ fun hp => ?_) ?_
  · obtain rfl : p = 17 := Fin.ext hp
    exact v_leaf B 2 (by decide) ![0, 128] slices_S256x192_o0_128_S256x64 rfl x
  refine View.allAt_cons_unit _ _ _ _ _ (plane_tile 16 _ _ _ _ _ fun hp => ?_) ?_
  · obtain rfl : p = 16 := Fin.ext hp
    exact v_leaf B 1 (by decide) ![0, 64] slices_S256x192_o0_64_S256x64 rfl x
  refine View.allAt_cons_unit _ _ _ _ _ (plane_tile 15 _ _ _ _ _ fun hp => ?_) ?_
  · obtain rfl : p = 15 := Fin.ext hp
    exact v_leaf B 0 (by decide) ![0, 0] slices_S256x192_o0_0_S256x64 rfl x
  refine View.allAt_cons_unit _ _ _ _ _ (plane_tile 14 _ _ _ _ _ fun hp => ?_) ?_
  · obtain rfl : p = 14 := Fin.ext hp
    exact k_leaf B 2 (by decide) ![0, 128] slices_S256x192_o0_128_S256x64 rfl x
  refine View.allAt_cons_unit _ _ _ _ _ (plane_tile 13 _ _ _ _ _ fun hp => ?_) ?_
  · obtain rfl : p = 13 := Fin.ext hp
    exact k_leaf B 1 (by decide) ![0, 64] slices_S256x192_o0_64_S256x64 rfl x
  refine View.allAt_cons_unit _ _ _ _ _ (plane_tile 12 _ _ _ _ _ fun hp => ?_) ?_
  · obtain rfl : p = 12 := Fin.ext hp
    exact k_leaf B 0 (by decide) ![0, 0] slices_S256x192_o0_0_S256x64 rfl x
  refine View.allAt_cons_unit _ _ _ _ _ (plane_tile 11 _ _ _ _ _ fun hp => ?_) ?_
  · obtain rfl : p = 11 := Fin.ext hp
    exact q_leaf B 11 (by decide) ![0, 704] slices_S256x768_o0_704_S256x64 rfl x
  refine View.allAt_cons_unit _ _ _ _ _ (plane_tile 10 _ _ _ _ _ fun hp => ?_) ?_
  · obtain rfl : p = 10 := Fin.ext hp
    exact q_leaf B 10 (by decide) ![0, 640] slices_S256x768_o0_640_S256x64 rfl x
  refine View.allAt_cons_unit _ _ _ _ _ (plane_tile 9 _ _ _ _ _ fun hp => ?_) ?_
  · obtain rfl : p = 9 := Fin.ext hp
    exact q_leaf B 9 (by decide) ![0, 576] slices_S256x768_o0_576_S256x64 rfl x
  refine View.allAt_cons_unit _ _ _ _ _ (plane_tile 8 _ _ _ _ _ fun hp => ?_) ?_
  · obtain rfl : p = 8 := Fin.ext hp
    exact q_leaf B 8 (by decide) ![0, 512] slices_S256x768_o0_512_S256x64 rfl x
  refine View.allAt_cons_unit _ _ _ _ _ (plane_tile 7 _ _ _ _ _ fun hp => ?_) ?_
  · obtain rfl : p = 7 := Fin.ext hp
    exact q_leaf B 7 (by decide) ![0, 448] slices_S256x768_o0_448_S256x64 rfl x
  refine View.allAt_cons_unit _ _ _ _ _ (plane_tile 6 _ _ _ _ _ fun hp => ?_) ?_
  · obtain rfl : p = 6 := Fin.ext hp
    exact q_leaf B 6 (by decide) ![0, 384] slices_S256x768_o0_384_S256x64 rfl x
  refine View.allAt_cons_unit _ _ _ _ _ (plane_tile 5 _ _ _ _ _ fun hp => ?_) ?_
  · obtain rfl : p = 5 := Fin.ext hp
    exact q_leaf B 5 (by decide) ![0, 320] slices_S256x768_o0_320_S256x64 rfl x
  refine View.allAt_cons_unit _ _ _ _ _ (plane_tile 4 _ _ _ _ _ fun hp => ?_) ?_
  · obtain rfl : p = 4 := Fin.ext hp
    exact q_leaf B 4 (by decide) ![0, 256] slices_S256x768_o0_256_S256x64 rfl x
  refine View.allAt_cons_unit _ _ _ _ _ (plane_tile 3 _ _ _ _ _ fun hp => ?_) ?_
  · obtain rfl : p = 3 := Fin.ext hp
    exact q_leaf B 3 (by decide) ![0, 192] slices_S256x768_o0_192_S256x64 rfl x
  refine View.allAt_cons_unit _ _ _ _ _ (plane_tile 2 _ _ _ _ _ fun hp => ?_) ?_
  · obtain rfl : p = 2 := Fin.ext hp
    exact q_leaf B 2 (by decide) ![0, 128] slices_S256x768_o0_128_S256x64 rfl x
  refine View.allAt_cons_unit _ _ _ _ _ (plane_tile 1 _ _ _ _ _ fun hp => ?_) ?_
  · obtain rfl : p = 1 := Fin.ext hp
    exact q_leaf B 1 (by decide) ![0, 64] slices_S256x768_o0_64_S256x64 rfl x
  refine View.allAt_cons_unit _ _ _ _ _ (plane_tile 0 _ _ _ _ _ fun hp => ?_) ?_
  · obtain rfl : p = 0 := Fin.ext hp
    exact q_leaf B 0 (by decide) ![0, 0] slices_S256x768_o0_0_S256x64 rfl x
  exact View.allAt_nil _ _

end

end Cert.KernelIdeal.Own

end
-- ==== Proof.Ki.Heads.lean ====
/- The fused attention call, head by head: what each of the sixteen heads holds at an index, over the extended reals. -/
module

public import proofs.«01_k».proof.Proof.Ki.FusedOut
public import proofs.«01_k».proof.Proof.Math.Spec
public import Idealize.ShloMosaic.Lib.Pointwise

@[expose] public section

set_option maxRecDepth 16384

noncomputable section

namespace Cert.KernelIdeal.Own

open Cert.KernelIdeal.Gen
open Idealize.ShloMosaic Idealize.ShloMosaic.Tactic
open Cert.Attn Cert.Words

/-! ## Reading the array of projections -/

/-- Plane `a` of the projections at position `s`, which is taken modulo the number of positions. -/
def hd (X : Vec Ideal S24x2048x64 .f32) (a : Fin 24) (s : ℕ) (d : Fin 64) : EReal :=
  X (ix3 a ⟨s % 2048, Nat.mod_lt _ (by decide)⟩ d)

theorem hd_fin (X : Vec Ideal S24x2048x64 .f32) (a : Fin 24) (s : Fin 2048) (d : Fin 64) : hd X a s.val d = X (ix3 a s d) := by
  unfold hd; congr 2; exact Fin.ext (Nat.mod_eq_of_lt s.isLt)

/-- A load of 256 rows of a plane. -/
theorem ldq_at (X : Vec Ideal S24x2048x64 .f32) (o : Fin 3 → ℕ) (h) (a : Fin 24) (b : ℕ) (ho : o = ![a.val, b, 0]) (z : Fin 1) (r : Fin 256) (d : Fin 64) :
    ldq X o h (ix3 z r d) = hd X a (b + r.val) d := by
  subst ho
  have hb : b + 256 ≤ 2048 := h 1
  obtain rfl : z = 0 := Subsingleton.elim _ _
  unfold ldq hd
  pointwise
  congr 2
  exact Fin.ext (Nat.mod_eq_of_lt (by omega)).symm

/-- The key position that column `c` of the band of block `b` stands for. -/
def src (b : ℕ) (c : ℕ) : ℕ := (b - (2 - c / 256)) * 256 + c % 256

theorem src_lt {b c : ℕ} (hb : b < 8) (hc : c < 768) : src b c < 2048 := by unfold src; omega

/-- The offsets of the band's blocks. -/
theorem off9_eq : ∀ (i : grid1.Coords) (r : Fin 3), k1_off9 i (BitVec.ofNat 32 r.val) = ![12, ((i 0).val - (2 - r.val)) * 256, 0] := by decide +kernel
theorem off10_eq : ∀ (i : grid1.Coords) (r : Fin 3), k1_off10 i (BitVec.ofNat 32 r.val) = ![15, ((i 0).val - (2 - r.val)) * 256, 0] := by decide +kernel
theorem off15_eq : ∀ (i : grid1.Coords) (r : Fin 3), k1_off15 i (BitVec.ofNat 32 r.val) = ![13, ((i 0).val - (2 - r.val)) * 256, 0] := by decide +kernel
theorem off16_eq : ∀ (i : grid1.Coords) (r : Fin 3), k1_off16 i (BitVec.ofNat 32 r.val) = ![16, ((i 0).val - (2 - r.val)) * 256, 0] := by decide +kernel
theorem off21_eq : ∀ (i : grid1.Coords) (r : Fin 3), k1_off21 i (BitVec.ofNat 32 r.val) = ![14, ((i 0).val - (2 - r.val)) * 256, 0] := by decide +kernel
theorem off22_eq : ∀ (i : grid1.Coords) (r : Fin 3), k1_off22 i (BitVec.ofNat 32 r.val) = ![17, ((i 0).val - (2 - r.val)) * 256, 0] := by decide +kernel

/-- Row `r` of the group's head `h`. -/
def row4 (h : Fin 4) (r : Fin 256) : Fin 1024 := ⟨256 * h.val + r.val, by omega⟩

/-- Four planes one under the other. -/
theorem stack4_at (p0 p1 p2 p3 : Vec Ideal S1x256x64 .f32) (f : Fin 4 → Fin 256 → Fin 64 → EReal) (h0 : ∀ r d, p0 (ix3 0 r d) = f 0 r d)
    (h1 : ∀ r d, p1 (ix3 0 r d) = f 1 r d) (h2 : ∀ r d, p2 (ix3 0 r d) = f 2 r d) (h3 : ∀ r d, p3 (ix3 0 r d) = f 3 r d)
    (h : Fin 4) (r : Fin 256) (d : Fin 64) : k1_pay58 p0 p1 p2 p3 (ix2 (row4 h r) d) = f h r d := by
  have hr := r.isLt
  have key : ∀ R : Fin 1024, R.val = 256 * h.val + r.val → k1_pay58 p0 p1 p2 p3 (ix2 R d) = f h r d := by
    intro R hR
    unfold_payloads
    pointwise
    have e : ∀ (k : Fin 4) (t : ℕ) (ht : t < 256), k.val = h.val → t = r.val → f k ⟨t, ht⟩ d = f h r d := by
      rintro k t ht hk rfl; rw [Fin.ext hk]
    simp only [h0, h1, h2, h3]
    by_cases c0 : R.val < 256
    · rw [dif_pos c0]; exact e 0 _ _ (by show 0 = _; omega) (by omega)
    rw [dif_neg c0]
    by_cases c1 : R.val - 256 < 256
    · rw [dif_pos c1]; exact e 1 _ _ (by show 1 = _; omega) (by omega)
    rw [dif_neg c1]
    by_cases c2 : R.val - 256 - 256 < 256
    · rw [dif_pos c2]; exact e 2 _ _ (by show 2 = _; omega) (by omega)
    rw [dif_neg c2]
    exact e 3 _ _ (by show 3 = _; omega) (by omega)
  exact key _ rfl

/-- Three blocks one under the other, and turned. -/
theorem band_at (X : Vec Ideal S24x2048x64 .f32) (a : Fin 24) (b : ℕ) (hb : b < 8) (p0 p1 p2 : Vec Ideal S1x256x64 .f32)
    (h0 : ∀ r d, p0 (ix3 0 r d) = hd X a ((b - 2) * 256 + r.val) d) (h1 : ∀ r d, p1 (ix3 0 r d) = hd X a ((b - 1) * 256 + r.val) d)
    (h2 : ∀ r d, p2 (ix3 0 r d) = hd X a (b * 256 + r.val) d) (c : Fin 768) (d : Fin 64) :
    k1_pay59 p0 p1 p2 (ix2 c d) = hd X a (src b c.val) d ∧ k1_pay60 p0 p1 p2 (ix2 d c) = hd X a (src b c.val) d := by
  have hc := c.isLt
  constructor <;>
  · unfold_payloads
    pointwise
    unfold src
    simp only [h0, h1, h2]
    split_ifs <;> congr 1 <;> omega

/-! ## Attention over the window -/

/-- The columns of the band that a row takes. -/
def cols (b r : ℕ) : Finset (Fin 768) := Finset.univ.filter fun c => (r < c.val ∧ c.val ≤ r + 512) ∧ 512 ≤ c.val + 256 * b

theorem cols_src {b r : ℕ} (hb : b < 8) (hr : r < 256) :
    Set.InjOn (fun c : Fin 768 => (⟨src b c.val, src_lt hb c.isLt⟩ : Fin 2048)) (cols b r : Set (Fin 768))
      ∧ (cols b r).image (fun c : Fin 768 => (⟨src b c.val, src_lt hb c.isLt⟩ : Fin 2048)) = win (256 * b + r) := by
  have e : ∀ c : Fin 768, c ∈ cols b r → src b c.val + 512 = 256 * b + c.val := fun c hc => by
    simp only [cols, Finset.mem_filter, Finset.mem_univ, true_and] at hc
    unfold src; omega
  refine ⟨fun c hc c' hc' h => ?_, Finset.ext fun j => ?_⟩
  · have h1 := e c hc; have h2 := e c' hc'
    have h3 : src b c.val = src b c'.val := congrArg Fin.val h
    exact Fin.ext (by omega)
  · rw [Finset.mem_image, mem_win]
    constructor
    · rintro ⟨c, hc, rfl⟩
      have h1 := e c hc
      simp only [cols, Finset.mem_filter, Finset.mem_univ, true_and] at hc
      simp only; omega
    · intro hj
      have hj' := j.isLt
      have hm : (⟨j.val + 512 - 256 * b, by omega⟩ : Fin 768) ∈ cols b r := by
        simp only [cols, Finset.mem_filter, Finset.mem_univ, true_and]; omega
      refine ⟨_, hm, Fin.ext ?_⟩
      have h1 := e _ hm
      simp only at h1 ⊢; omega

/-- A row of the windowed attention, the queries, keys and values given. -/
theorem swa_row (w : FVec Ideal S1024x768 .f32) (cm : FVec Ideal S1x768 .f32) (q : FVec Ideal S1024x64 .f32) (v : FVec Ideal S768x64 .f32)
    (kT : FVec Ideal S64x768 .f32) (R : Fin 1024) (d : Fin 64) (b r : ℕ) (hb : b < 8) (hr : r < 256)
    (Q : Fin 64 → EReal) (K V : Fin 2048 → Fin 64 → EReal) (hQ : ∀ x, IsReal (Q x)) (hK : ∀ j x, IsReal (K j x))
    (hq : ∀ x, q (ix2 R x) = Q x) (hk : ∀ (c : Fin 768) x, kT (ix2 x c) = K ⟨src b c.val, src_lt hb c.isLt⟩ x)
    (hv : ∀ (c : Fin 768) x, v (ix2 c x) = V ⟨src b c.val, src_lt hb c.isLt⟩ x)
    (hw : ∀ c : Fin 768, w (ix2 R c) = if r < c.val ∧ c.val ≤ r + 512 then 1 else 0)
    (hcm : ∀ c : Fin 768, cm (ix2 0 c) = if 512 ≤ c.val + 256 * b then 1 else 0) :
    k1_pay61 w cm q v kT (ix2 R d) = attn (win (256 * b + r)) (score Q K) (fun j => V j d) := by
  unfold_payloads
  pointwise
  rw [minus_inf, eighth]
  simp only [hq, hk, hv]
  have h := attn_factor (cols b r) ?_ (fun c : Fin 768 => (∑ x, Q x * K ⟨src b c.val, src_lt hb c.isLt⟩ x) * ((1 / 8 : ℝ) : EReal))
    (fun c => score Q K ⟨src b c.val, src_lt hb c.isLt⟩) (fun c => coe_score hQ hK _) (fun c => w (ix2 R c) * cm (ix2 0 c)) ?_
    (fun c => V ⟨src b c.val, src_lt hb c.isLt⟩ d)
  · simp only [← mul_assoc] at h
    rw [h, ← (cols_src hb hr).2]
    exact attn_image _ _ (cols_src hb hr).1 _ _ _ _ (fun c _ => rfl) (fun c _ => rfl)
  · refine ⟨⟨512 + r, by omega⟩, ?_⟩
    simp only [cols, Finset.mem_filter, Finset.mem_univ, true_and]; omega
  · intro c
    rw [hw, hcm]
    simp only [cols, Finset.mem_filter, Finset.mem_univ, true_and]
    split_ifs <;> simp_all

/-! ## Attention over the window and the taken chunks -/

/-- A row of it, the scores and the factors given. -/
theorem hsa_row (v : FVec Ideal S2048x64 .f32) (wn L : FVec Ideal S256x2048 .f32) (ss : FVec Ideal S256x32 .f32) (E : Vec Ideal S32x2048 .f32)
    (r : Fin 256) (d : Fin 64) (S : Finset (Fin 2048)) (hS : S.Nonempty) (ℓ : Fin 2048 → ℝ) (hL : ∀ j, L (ix2 r j) = (ℓ j : EReal))
    (hw : ∀ j, max (wn (ix2 r j)) (∑ c, ss (ix2 r c) * E (ix2 c j)) = if j ∈ S then 1 else 0) :
    k1_pay71 v wn L ss E (ix2 r d) = attn S ℓ (fun j => v (ix2 j d)) := by
  unfold_payloads
  pointwise
  rw [minus_inf]
  exact attn_factor S hS (fun j => L (ix2 r j)) ℓ hL (fun j => max (wn (ix2 r j)) (∑ c, ss (ix2 r c) * E (ix2 c j))) hw (fun j => v (ix2 j d))

/-- The scores of 256 compressed queries. -/
def hlog (qs : FVec Ideal S256x64 .f32) (k : FVec Ideal S2048x64 .f32) : FVec Ideal S256x2048 .f32 :=
  mulf (matmul dot_S256x64_S64x2048_S256x2048_1_0_0_1_n_n none qs (transpose S64x2048 [1, 0] k transposes_S2048x64_p1_0_S64x2048) (constant S256x2048 .f32 0x00000000#32))
    (broadcast S256x2048 (Scalar.ofBits (F := Ideal) .f32 0x3E000000#32))

theorem hlog_at (qs : FVec Ideal S256x64 .f32) (k : FVec Ideal S2048x64 .f32) (r : Fin 256) (j : Fin 2048) :
    hlog qs k (ix2 r j) = (∑ x, qs (ix2 r x) * k (ix2 j x)) * ((1 / 8 : ℝ) : EReal) := by
  unfold hlog
  pointwise
  rw [eighth]

variable (i : grid1.Coords) (x0 : Vec Ideal S24x2048x64 .f32) (x1 : Vec Ideal S32x2048 .f32) (hq : FVec Ideal S1024x64 .f32) (sel : FVec Ideal S1024x32 .f32)

theorem hsa_0_eq : hsa_0 i x0 x1 hq sel = k1_pay71 (k1_pay67 (ldv x0)) (winOf i) (hlog (extractStridedSlice S256x64 ![0, 0] hq slices_S1024x64_o0_0_S256x64) (k1_pay66 (ldk x0)))
    (extractStridedSlice S256x32 ![0, 0] sel slices_S1024x32_o0_0_S256x32) (ldE x1) := rfl
theorem hsa_1_eq : hsa_1 i x0 x1 hq sel = k1_pay71 (k1_pay67 (ldv x0)) (winOf i) (hlog (extractStridedSlice S256x64 ![256, 0] hq slices_S1024x64_o256_0_S256x64) (k1_pay66 (ldk x0)))
    (extractStridedSlice S256x32 ![256, 0] sel slices_S1024x32_o256_0_S256x32) (ldE x1) := rfl
theorem hsa_2_eq : hsa_2 i x0 x1 hq sel = k1_pay71 (k1_pay67 (ldv x0)) (winOf i) (hlog (extractStridedSlice S256x64 ![512, 0] hq slices_S1024x64_o512_0_S256x64) (k1_pay66 (ldk x0)))
    (extractStridedSlice S256x32 ![512, 0] sel slices_S1024x32_o512_0_S256x32) (ldE x1) := rfl
theorem hsa_3_eq : hsa_3 i x0 x1 hq sel = k1_pay71 (k1_pay67 (ldv x0)) (winOf i) (hlog (extractStridedSlice S256x64 ![768, 0] hq slices_S1024x64_o768_0_S256x64) (k1_pay66 (ldk x0)))
    (extractStridedSlice S256x32 ![768, 0] sel slices_S1024x32_o768_0_S256x32) (ldE x1) := rfl

/-- The three groups of the windowed attention are one function of their loads. -/
theorem num0_eq (w : FVec Ideal S1024x768 .f32) (cm : FVec Ideal S1x768 .f32) (a b c d k0 k1 k2 v0 v1 v2 : Vec Ideal S1x256x64 .f32) :
    k1_pay43 w cm (k1_pay40 a b c d) (k1_pay41 k0) (k1_pay42 k1) k2 v0 v1 v2 = k1_pay61 w cm (k1_pay58 a b c d) (k1_pay59 v0 v1 v2) (k1_pay60 k0 k1 k2) := rfl
theorem num1_eq (w : FVec Ideal S1024x768 .f32) (cm : FVec Ideal S1x768 .f32) (a b c d k0 k1 k2 v0 v1 v2 : Vec Ideal S1x256x64 .f32) :
    k1_pay53 (k1_pay51 w cm (k1_pay48 a) (k1_pay49 b) c d k0 k1 k2) (k1_pay52 w cm (k1_pay48 a) (k1_pay49 b) c d k0 k1 k2 v0 v1 v2)
      = k1_pay61 w cm (k1_pay58 a b c d) (k1_pay59 v0 v1 v2) (k1_pay60 k0 k1 k2) := rfl

end Cert.KernelIdeal.Own

end
-- ==== Proof.Ki.Select.lean ====
/- The fused attention call: which chunks it takes. -/
module

public import proofs.«01_k».proof.Proof.Ki.Heads
public import proofs.«01_k».proof.Proof.Math.Keys

@[expose] public section

set_option maxRecDepth 16384

noncomputable section

namespace Cert.KernelIdeal.Own

open Cert.KernelIdeal.Gen
open Idealize.ShloMosaic Idealize.ShloMosaic.Tactic
open Cert.Attn Cert.Words Cert.Pick

/-! ## One round -/

/-- The greatest of each row, where it stands, and how often. -/
def mxA (v : FVec Ideal S1024x32 .f32) : FVec Ideal S1024x1 .f32 :=
  shapeCast S1024x1 (multiReduction .maximumf [1] S1024 v 0xFF800000#32 reduces_S1024x32_S1024 (.inl rfl) rfl) shapeCasts_S1024_S1024x1
def eqA (v : FVec Ideal S1024x32 .f32) : IVec S1024x32 1 := cmpf .oeq v (broadcastTo S1024x32 (mxA v) broadcasts_S1024x1_S1024x32)
def cntA (v : FVec Ideal S1024x32 .f32) : FVec Ideal S1024x1 .f32 :=
  shapeCast S1024x1 (multiReduction .add [1] S1024 (sitofp .f32 (extui 32 (eqA v) natLt_1_32)) 0x00000000#32 reduces_S1024x32_S1024 (.inl rfl) rfl) shapeCasts_S1024_S1024x1
def posA (r : FVec Ideal S1024x1 .f32) : IVec S1024x1 1 := cmpf .ogt r (broadcast S1024x1 (Scalar.ofBits (F := Ideal) .f32 0x00000000#32))

/-- A state of the search, in arrays: what is left of the scores, how many are still wanted, the least of those found. -/
structure St where
  v : FVec Ideal S1024x32 .f32
  rem : FVec Ideal S1024x1 .f32
  thr : FVec Ideal S1024x1 .f32

/-- One round. -/
def stepA (s : St) : St where
  v := select (eqA s.v) (broadcast S1024x32 (Scalar.ofBits (F := Ideal) .f32 0xFF800000#32)) s.v
  rem := subf s.rem (cntA s.v)
  thr := select (posA s.rem) (mxA s.v) s.thr

/-- A state's row. -/
def rowOf (s : St) (R : Fin 1024) : (Fin 32 → EReal) × EReal × EReal := (fun c => s.v (ix2 R c), s.rem (ix2 R 0), s.thr (ix2 R 0))

theorem mxA_at (v : FVec Ideal S1024x32 .f32) (R : Fin 1024) : mxA v (ix2 R 0) = Finset.univ.fold max ⊥ (fun c => v (ix2 R c)) := by
  unfold mxA; pointwise; rw [minus_inf]
theorem eqA_at (v : FVec Ideal S1024x32 .f32) (R : Fin 1024) (c : Fin 32) :
    eqA v (ix2 R c) = BitVec.ofBool (decide (v (ix2 R c) = Finset.univ.fold max ⊥ (fun c => v (ix2 R c)))) := by
  unfold eqA mxA; pointwise; rw [minus_inf]
theorem cntA_at (v : FVec Ideal S1024x32 .f32) (R : Fin 1024) :
    cntA v (ix2 R 0) = ∑ c, (if v (ix2 R c) = Finset.univ.fold max ⊥ (fun c => v (ix2 R c)) then 1 else 0) := by
  unfold cntA; pointwise; simp only [eqA_at, bit_num]

/-- A round goes row by row. -/
theorem row_step (s : St) (R : Fin 1024) : rowOf (stepA s) R = Pick.round (rowOf s R) := by
  unfold rowOf stepA Pick.round
  refine Prod.ext (funext fun c => ?_) (Prod.ext ?_ ?_)
  · show select (eqA s.v) _ s.v (ix2 R c) = _
    have e : ∀ (x : FVec Ideal S1024x32 .f32), select (eqA s.v) x s.v (ix2 R c) = if eqA s.v (ix2 R c) = 1#1 then x (ix2 R c) else s.v (ix2 R c) := fun x => by
      rfl
    rw [e, eqA_at]
    by_cases h : s.v (ix2 R c) = Finset.univ.fold max ⊥ (fun c => s.v (ix2 R c))
    · rw [decide_eq_true h, if_pos (by decide)]; simp only; rw [if_pos h]; exact minus_inf
    · rw [decide_eq_false h, if_neg (by decide)]; simp only; rw [if_neg h]
  · show subf s.rem (cntA s.v) (ix2 R 0) = _
    have e : subf s.rem (cntA s.v) (ix2 R 0) = s.rem (ix2 R 0) - cntA s.v (ix2 R 0) := rfl
    rw [e, cntA_at]
  · show select (posA s.rem) (mxA s.v) s.thr (ix2 R 0) = _
    have e : select (posA s.rem) (mxA s.v) s.thr (ix2 R 0) = if 0 < s.rem (ix2 R 0) then mxA s.v (ix2 R 0) else s.thr (ix2 R 0) := by
      unfold posA; pointwise
    rw [e, mxA_at]

theorem row_steps (n : ℕ) (s : St) (R : Fin 1024) : rowOf (stepA^[n] s) R = Pick.round^[n] (rowOf s R) := by
  induction n generalizing s with
  | zero => rfl
  | succ n ih => rw [Function.iterate_succ_apply, ih, row_step, Function.iterate_succ_apply]

/-! ## The printed rounds -/

variable (i : grid1.Coords) (sim : FVec Ideal S1024x32 .f32)

/-- The scores as the search finds them, and its first state. -/
def xA : FVec Ideal S1024x32 .f32 := select (availOf i) sim (broadcast S1024x32 (Named.named (F := Ideal) κ "mask" (φ := .f32) 0xCE6E6B28#32))
def st0 : St where
  v := xA i sim
  rem := k1_pay10
  thr := broadcast S1024x1 (Named.named (F := Ideal) κ "mask" (φ := .f32) 0xCE6E6B28#32)

theorem first_eq : stepA (st0 i sim) = ⟨k1_pay14 sim (k1_pay5 i) 64#32 (k1_pay6 i) (k1_pay7 i) 0#32, k1_pay15 sim (k1_pay5 i) 64#32 (k1_pay6 i) (k1_pay7 i) 0#32,
    k1_pay13 sim (k1_pay5 i) 64#32 (k1_pay6 i) (k1_pay7 i) 0#32⟩ := rfl

theorem next_eq (s : St) : stepA (stepA (stepA (stepA s))) = ⟨k1_pay33 s.v (eqA s.v), k1_pay34 s.v s.rem (eqA s.v) (cntA s.v),
    k1_pay32 s.thr s.v s.rem (mxA s.v) (eqA s.v) (cntA s.v) (posA s.rem)⟩ := rfl

theorem last_eq (av : IVec S1024x32 1) (x : FVec Ideal S1024x32 .f32) (s : St) :
    k1_pay35 av x s.thr s.v s.rem = sitofp .f32 (extui 32 (andi (cmpf .oge x (broadcastTo S1024x32 (stepA (stepA (stepA s))).thr broadcasts_S1024x1_S1024x32)) av) natLt_1_32) := rfl

theorem mx_eq : k1_pay16 sim (k1_pay5 i) 64#32 (k1_pay6 i) (k1_pay7 i) 0#32 = mxA (k1_pay14 sim (k1_pay5 i) 64#32 (k1_pay6 i) (k1_pay7 i) 0#32) := rfl
theorem at_eq : k1_pay17 sim (k1_pay5 i) 64#32 (k1_pay6 i) (k1_pay7 i) 0#32 = eqA (k1_pay14 sim (k1_pay5 i) 64#32 (k1_pay6 i) (k1_pay7 i) 0#32) := rfl
theorem cnt_eq : k1_pay18 sim (k1_pay5 i) 64#32 (k1_pay6 i) (k1_pay7 i) 0#32 = cntA (k1_pay14 sim (k1_pay5 i) 64#32 (k1_pay6 i) (k1_pay7 i) 0#32) := rfl
theorem pos_eq : k1_pay19 sim (k1_pay5 i) 64#32 (k1_pay6 i) (k1_pay7 i) 0#32 = posA (k1_pay15 sim (k1_pay5 i) 64#32 (k1_pay6 i) (k1_pay7 i) 0#32) := rfl
theorem x_eq : k1_pay9 sim (k1_pay5 i) 64#32 (k1_pay6 i) (k1_pay7 i) 0#32 = xA i sim := rfl

theorem selOf_eq : selOf i sim = sitofp .f32 (extui 32 (andi (cmpf .oge (xA i sim) (broadcastTo S1024x32 (stepA^[8] (st0 i sim)).thr broadcasts_S1024x1_S1024x32)) (availOf i)) natLt_1_32) := by
  have h8 : stepA^[8] (st0 i sim) = stepA (stepA (stepA (stepA (stepA (stepA (stepA (stepA (st0 i sim)))))))) := rfl
  rw [h8, ← last_eq, next_eq, first_eq]
  unfold selOf
  rw [mx_eq, at_eq, cnt_eq, pos_eq, x_eq]

/-- The chunks that may be taken. -/
theorem floor_chunk : ∀ a : Fin 2048, ∀ x : BitVec 32, x = IntOp.subi (BitVec.ofNat 32 a.val) 511#32 →
    (Scalar.select
        (IntOp.andi
          (IntOp.cmpi .ne
            (IntOp.subi (BitVec.setWidth 32 (IntOp.cmpi .sgt x 0#32)) (BitVec.setWidth 32 (IntOp.cmpi .slt x 0#32)))
            (Scalar.subi (Scalar.extui (Scalar.cmpi .sgt 64#32 0#32)) (Scalar.extui (Scalar.cmpi .slt 64#32 0#32))))
          (IntOp.cmpi .ne (IntOp.remsi .vector x 64#32) 0#32))
        (IntOp.subi (IntOp.divsi .vector x 64#32) 1#32)
        (IntOp.divsi .vector x 64#32)).toInt = ((a.val : ℤ) - 511) / 64 := by
  intro a x h; subst h; revert a
  decide +kernel

end Cert.KernelIdeal.Own

end
-- ==== Proof.Ki.Chosen.lean ====
/- The fused attention call: the masks at an index, and the chunks taken. -/
module

public import proofs.«01_k».proof.Proof.Ki.Select

@[expose] public section

set_option maxRecDepth 16384

noncomputable section

namespace Cert.KernelIdeal.Own

open Cert.KernelIdeal.Gen
open Idealize.ShloMosaic Idealize.ShloMosaic.Tactic
open Cert.Attn Cert.Words Cert.Pick

theorem pos_word (b r : ℕ) : IntOp.addi (Scalar.muli (BitVec.ofNat 32 b) 256#32) (BitVec.ofNat 32 r) = BitVec.ofNat 32 (256 * b + r) := by
  show BitVec.ofNat 32 b * BitVec.ofNat 32 256 + BitVec.ofNat 32 r = _
  rw [← BitVec.ofNat_mul, ← BitVec.ofNat_add, mul_comm]

theorem blk_lt (i : grid1.Coords) : (i 0).val < 8 := (i 0).isLt

/-- A quotient against a chunk number. -/
theorem old_bit {s : ℕ} (hs : s < 2048) (c : Fin 32) (y : BitVec 32) (hy : y.toInt = ((s : ℤ) - 511) / 64) :
    IntOp.cmpi .slt (BitVec.ofNat 32 c.val) y = BitVec.ofBool (decide (old s c.val)) := by
  show BitVec.ofBool (BitVec.slt _ _) = _
  rw [BitVec.slt, hy, WordCmp.toInt_ofNat_of_lt (by omega)]
  congr 2
  refine propext ⟨fun h => ?_, fun h => ?_⟩
  · show 64 * c.val + 575 ≤ s; omega
  · have : 64 * c.val + 575 ≤ s := h
    omega

variable (i : grid1.Coords)

theorem availOf_at (h : Fin 4) (r : Fin 256) (c : Fin 32) :
    availOf i (ix2 (row4 h r) c) = BitVec.ofBool (decide (old (256 * (i 0).val + r.val) c.val)) := by
  have hb := blk_lt i
  have hr := r.isLt
  have hh := h.isLt
  have key : ∀ R : Fin 1024, R.val = 256 * h.val + r.val → availOf i (ix2 R c) = BitVec.ofBool (decide (old (256 * (i 0).val + r.val) c.val)) := by
    intro R hR
    have fin : ∀ t : ℕ, t = r.val → ∀ y : BitVec 32, y.toInt = ((256 * (i 0).val + t : ℕ) - 511 : ℤ) / 64 →
        IntOp.cmpi .slt (BitVec.ofNat 32 c.val) y = BitVec.ofBool (decide (old (256 * (i 0).val + r.val) c.val)) := by
      rintro t rfl y hy; exact old_bit (by omega) c y hy
    have word := fun (t : ℕ) (ht : t < 256) => floor_chunk ⟨256 * (i 0).val + t, by omega⟩ _ (congrArg (fun z => IntOp.subi z 511#32) (pos_word (i 0).val t))
    unfold availOf
    unfold_payloads
    pointwise
    by_cases c0 : R.val < 256
    · rw [dif_pos c0]; exact fin _ (by omega) _ (word _ (by omega))
    rw [dif_neg c0]
    by_cases c1 : R.val - 256 < 256
    · rw [dif_pos c1]; exact fin _ (by omega) _ (word _ (by omega))
    rw [dif_neg c1]
    by_cases c2 : R.val - 256 - 256 < 256
    · rw [dif_pos c2]; exact fin _ (by omega) _ (word _ (by omega))
    rw [dif_neg c2]
    exact fin _ (by omega) _ (word _ (by omega))
  exact key _ rfl

theorem named_mask : Named.named (F := Ideal) κ "mask" (φ := .f32) 0xCE6E6B28#32 = ⊥ := rfl

/-- The score a row has for a chunk, as the search finds it. -/
theorem xA_at (sim : FVec Ideal S1024x32 .f32) (h : Fin 4) (r : Fin 256) (c : Fin 32) :
    xA i sim (ix2 (row4 h r) c) = masked (256 * (i 0).val + r.val) (fun c => sim (ix2 (row4 h r) c)) c := by
  have e : xA i sim (ix2 (row4 h r) c) = if availOf i (ix2 (row4 h r) c) = 1#1 then sim (ix2 (row4 h r) c) else ⊥ := rfl
  rw [e, availOf_at]
  unfold masked
  by_cases ho : old (256 * (i 0).val + r.val) c.val
  · rw [decide_eq_true ho, if_pos (by decide), if_pos ho]
  · rw [decide_eq_false ho, if_neg (by decide), if_neg ho]

open Classical in
theorem selOf_at (sim : FVec Ideal S1024x32 .f32) (h : Fin 4) (r : Fin 256) (c : Fin 32) :
    selOf i sim (ix2 (row4 h r) c) = if taken (256 * (i 0).val + r.val) (fun c => sim (ix2 (row4 h r) c)) c then 1 else 0 := by
  have hthr : (stepA^[8] (st0 i sim)).thr (ix2 (row4 h r) 0) = eighthOf (masked (256 * (i 0).val + r.val) (fun c => sim (ix2 (row4 h r) c))) := by
    have e := congrArg (fun t => t.2.2) (row_steps 8 (st0 i sim) (row4 h r))
    refine Eq.trans e ?_
    have e0 : rowOf (st0 i sim) (row4 h r) = (masked (256 * (i 0).val + r.val) (fun c => sim (ix2 (row4 h r) c)), ((8 : ℝ) : EReal), ⊥) := by
      unfold rowOf st0
      refine Prod.ext (funext fun c => xA_at i sim h r c) (Prod.ext eight rfl)
    rw [e0]; rfl
  have e : selOf i sim (ix2 (row4 h r) c) = FloatOps.sitofp (F := Ideal) FTy.f32 (BitVec.setWidth 32 (IntOp.andi
      (BitVec.ofBool (decide ((stepA^[8] (st0 i sim)).thr (ix2 (row4 h r) 0) ≤ xA i sim (ix2 (row4 h r) c)))) (availOf i (ix2 (row4 h r) c)))) := by
    rw [selOf_eq]
    generalize stepA^[8] (st0 i sim) = s8
    pointwise
  rw [e, hthr, xA_at, availOf_at]
  rw [← bit_num]
  congr 2
  have e2 : (decide (taken (256 * (i 0).val + r.val) (fun c => sim (ix2 (row4 h r) c)) c)) = (decide (eighthOf (masked (256 * (i 0).val + r.val) (fun c => sim (ix2 (row4 h r) c))) ≤
      masked (256 * (i 0).val + r.val) (fun c => sim (ix2 (row4 h r) c)) c) && decide (old (256 * (i 0).val + r.val) c.val)) := by
    rw [← Bool.decide_and]; exact decide_eq_decide.mpr Iff.rfl
  rw [e2]
  cases decide (eighthOf (masked (256 * (i 0).val + r.val) (fun c => sim (ix2 (row4 h r) c))) ≤ masked (256 * (i 0).val + r.val) (fun c => sim (ix2 (row4 h r) c)) c) <;>
    cases decide (old (256 * (i 0).val + r.val) c.val) <;> rfl

theorem winOf_at (r : Fin 256) (j : Fin 2048) : winOf (F := Ideal) i (ix2 r j) = if j ∈ win (256 * (i 0).val + r.val) then 1 else 0 := by
  have hb := blk_lt i
  have hr := r.isLt
  unfold winOf
  unfold_payloads
  pointwise
  rw [pos_word, win_bit (by omega) j.isLt, bit_num]
  simp only [mem_win]

theorem cmOf_at (c : Fin 768) : cmOf (F := Ideal) i (ix2 0 c) = if 512 ≤ c.val + 256 * (i 0).val then 1 else 0 := by
  have hb := blk_lt i
  have hc := c.isLt
  unfold cmOf
  unfold_payloads
  pointwise
  have w : ∀ b : Fin 8, ((Scalar.extui (Scalar.cmpi CmpIPredicate.sge (BitVec.ofNat 32 b.val) 2#32) : BitVec 32).toInt = if 2 ≤ b.val then 1 else 0)
      ∧ ((Scalar.extui (Scalar.cmpi CmpIPredicate.sge (BitVec.ofNat 32 b.val) 1#32) : BitVec 32).toInt = if 1 ≤ b.val then 1 else 0) := by decide
  rw [(w ⟨(i 0).val, hb⟩).1, (w ⟨(i 0).val, hb⟩).2]
  by_cases c0 : c.val < 256
  · rw [dif_pos c0]
    by_cases h2 : 2 ≤ (i 0).val
    · rw [if_pos h2, if_pos (by omega)]; norm_num
    · rw [if_neg h2, if_neg (by omega)]; norm_num
  rw [dif_neg c0]
  by_cases c1 : c.val - 256 < 256
  · rw [dif_pos c1]
    by_cases h2 : 1 ≤ (i 0).val
    · rw [if_pos h2, if_pos (by omega)]; norm_num
    · rw [if_neg h2, if_neg (by omega)]; norm_num
  rw [dif_neg c1, if_pos (by omega)]

end Cert.KernelIdeal.Own

end
-- ==== Proof.Ki.Block.lean ====
/- The fused attention call: the block it writes, at an index. -/
module

public import proofs.«01_k».proof.Proof.Ki.Chosen

@[expose] public section

set_option maxRecDepth 16384

noncomputable section

namespace Cert.KernelIdeal.Own

open Cert.KernelIdeal.Gen
open Idealize.ShloMosaic Idealize.ShloMosaic.Tactic
open Cert.Attn Cert.Words Cert.Pick

/-- A whole array, loaded. -/
theorem ldE_at (E : Vec Ideal S32x2048 .f32) (c : Fin 32) (j : Fin 2048) : ldE E (ix2 c j) = E (ix2 c j) := by unfold ldE; pointwise
theorem ldo_at (o : Vec Ideal S1024x1024 .f32) (n x : Fin 1024) : ldo o (ix2 n x) = o (ix2 n x) := by unfold ldo; pointwise
theorem w3Of_at (w : Vec Ideal S1024x768 .f32) (R : Fin 1024) (c : Fin 768) : w3Of w (ix2 R c) = w (ix2 R c) := by
  unfold w3Of ldw; unfold_payloads; pointwise
theorem ldk_at (X : Vec Ideal S24x2048x64 .f32) (j : Fin 2048) (x : Fin 64) : ldk X (ix3 0 j x) = X (ix3 22 j x) := by
  unfold ldk; pointwise
theorem ldv_at (X : Vec Ideal S24x2048x64 .f32) (j : Fin 2048) (x : Fin 64) : ldv X (ix3 0 j x) = X (ix3 23 j x) := by
  unfold ldv; pointwise

variable (i : grid1.Coords) (X : Vec Ideal S24x2048x64 .f32) (E : Vec Ideal S32x2048 .f32) (w : Vec Ideal S1024x768 .f32)

/-- What the call's arrays hold: the chunk indicator, the window factors, and real queries and keys. -/
structure Arrays : Prop where
  chunks : ∀ c j, E (ix2 c j) = if c = chunk j then 1 else 0
  factors : ∀ h r c, w (ix2 (row4 h r) c) = if r.val < c.val ∧ c.val ≤ r.val + 512 then 1 else 0
  realQ : ∀ h s x, IsReal (X (ix3 (qp h) s x))
  realK : ∀ g s x, IsReal (X (ix3 (kp g) s x))

/-- The heads' queries, keys and values, in the array of projections. -/
abbrev qX (h : Fin 16) (s : Fin 2048) (x : Fin 64) : EReal := X (ix3 (qp h) s x)
abbrev kX (g : Fin 4) (s : Fin 2048) (x : Fin 64) : EReal := X (ix3 (kp g) s x)
abbrev vX (g : Fin 4) (s : Fin 2048) (x : Fin 64) : EReal := X (ix3 (vp g) s x)

/-- Row `r` of block `i`. -/
def pos (r : Fin 256) : Fin 2048 := ⟨256 * (i 0).val + r.val, by have := blk_lt i; omega⟩

variable {X E w}

/-- A group of four windowed heads, from its loads. -/
theorem group_row (H : Arrays X E w) (g : Fin 3) (q0 q1 q2 q3 k0 k1 k2 v0 v1 v2 : Vec Ideal S1x256x64 .f32)
    (hq0 : ∀ r d, q0 (ix3 0 r d) = hd X ⟨4 * g.val, by omega⟩ (256 * (i 0).val + r.val) d) (hq1 : ∀ r d, q1 (ix3 0 r d) = hd X ⟨4 * g.val + 1, by omega⟩ (256 * (i 0).val + r.val) d)
    (hq2 : ∀ r d, q2 (ix3 0 r d) = hd X ⟨4 * g.val + 2, by omega⟩ (256 * (i 0).val + r.val) d) (hq3 : ∀ r d, q3 (ix3 0 r d) = hd X ⟨4 * g.val + 3, by omega⟩ (256 * (i 0).val + r.val) d)
    (hk0 : ∀ r d, k0 (ix3 0 r d) = hd X ⟨g.val + 12, by omega⟩ (((i 0).val - 2) * 256 + r.val) d) (hk1 : ∀ r d, k1 (ix3 0 r d) = hd X ⟨g.val + 12, by omega⟩ (((i 0).val - 1) * 256 + r.val) d)
    (hk2 : ∀ r d, k2 (ix3 0 r d) = hd X ⟨g.val + 12, by omega⟩ ((i 0).val * 256 + r.val) d)
    (hv0 : ∀ r d, v0 (ix3 0 r d) = hd X ⟨g.val + 15, by omega⟩ (((i 0).val - 2) * 256 + r.val) d) (hv1 : ∀ r d, v1 (ix3 0 r d) = hd X ⟨g.val + 15, by omega⟩ (((i 0).val - 1) * 256 + r.val) d)
    (hv2 : ∀ r d, v2 (ix3 0 r d) = hd X ⟨g.val + 15, by omega⟩ ((i 0).val * 256 + r.val) d)
    (hh : Fin 4) (r : Fin 256) (d : Fin 64) (h : Fin 16) (eh : h.val = 4 * g.val + hh.val) :
    k1_pay61 (w3Of w) (cmOf i) (k1_pay58 q0 q1 q2 q3) (k1_pay59 v0 v1 v2) (k1_pay60 k0 k1 k2) (ix2 (row4 hh r) d) = headVal (qX X) (kX X) (vX X) (pos i r) h d := by
  have hb := blk_lt i
  have h12 : h.val < 12 := by omega
  have eg : (grp h).val = g.val := by show h.val / 4 = g.val; omega
  have hkp : kp (grp h) = ⟨g.val + 12, by omega⟩ := by unfold kp; rw [dif_pos (by omega)]; exact Fin.ext (by simp only [eg])
  have hvp : vp (grp h) = ⟨g.val + 15, by omega⟩ := by unfold vp; rw [dif_pos (by omega)]; exact Fin.ext (by simp only [eg])
  have hqp : qp h = ⟨4 * g.val + hh.val, by omega⟩ := by unfold qp; rw [dif_pos h12]; exact Fin.ext eh
  have hs : ∀ a (j : Fin 2048) x, hd X a j.val x = X (ix3 a j x) := hd_fin X
  unfold headVal
  rw [if_pos h12]
  refine swa_row _ _ _ _ _ (row4 hh r) d (i 0).val r.val hb r.isLt (qX X h (pos i r)) (kX X (grp h)) (vX X (grp h)) (fun x => H.realQ h _ x) (fun j x => H.realK _ j x)
    (fun x => ?_) (fun c x => ?_) (fun c x => ?_) (fun c => ?_) (fun c => cmOf_at i c)
  · rw [stack4_at q0 q1 q2 q3 (fun h r d => hd X ⟨4 * g.val + h.val, by omega⟩ (256 * (i 0).val + r.val) d) hq0 hq1 hq2 hq3]
    unfold qX; rw [hqp, ← hs]; rfl
  · rw [(band_at X _ _ hb k0 k1 k2 hk0 hk1 hk2 c x).2]
    unfold kX; rw [hkp, ← hs]
  · rw [(band_at X _ _ hb v0 v1 v2 hv0 hv1 hv2 c x).1]
    unfold vX; rw [hvp, ← hs]
  · rw [w3Of_at, H.factors]

/-- The loads of the three groups. -/
theorem group0 (H : Arrays X E w) (hh : Fin 4) (r : Fin 256) (d : Fin 64) (h : Fin 16) (eh : h.val = 4 * 0 + hh.val) :
    k1_pay61 (w3Of w) (cmOf i) (k1_pay58 (ldq X (k1_off5 i) (k1_off5_inb i)) (ldq X (k1_off6 i) (k1_off6_inb i)) (ldq X (k1_off7 i) (k1_off7_inb i)) (ldq X (k1_off8 i) (k1_off8_inb i)))
      (k1_pay59 (ldq X (k1_off10 i 0#32) (k1_off10_inb i 0)) (ldq X (k1_off10 i 1#32) (k1_off10_inb i 1)) (ldq X (k1_off10 i 2#32) (k1_off10_inb i 2)))
      (k1_pay60 (ldq X (k1_off9 i 0#32) (k1_off9_inb i 0)) (ldq X (k1_off9 i 1#32) (k1_off9_inb i 1)) (ldq X (k1_off9 i 2#32) (k1_off9_inb i 2)))
      (ix2 (row4 hh r) d) = headVal (qX X) (kX X) (vX X) (pos i r) h d :=
  group_row i H 0 _ _ _ _ _ _ _ _ _ _ (ldq_at X _ _ 0 _ (k1_off5_eq i) 0) (ldq_at X _ _ 1 _ (k1_off6_eq i) 0) (ldq_at X _ _ 2 _ (k1_off7_eq i) 0) (ldq_at X _ _ 3 _ (k1_off8_eq i) 0)
    (ldq_at X _ _ 12 _ (off9_eq i 0) 0) (ldq_at X _ _ 12 _ (off9_eq i 1) 0) (ldq_at X _ _ 12 _ (off9_eq i 2) 0)
    (ldq_at X _ _ 15 _ (off10_eq i 0) 0) (ldq_at X _ _ 15 _ (off10_eq i 1) 0) (ldq_at X _ _ 15 _ (off10_eq i 2) 0) hh r d h eh
theorem group1 (H : Arrays X E w) (hh : Fin 4) (r : Fin 256) (d : Fin 64) (h : Fin 16) (eh : h.val = 4 * 1 + hh.val) :
    k1_pay61 (w3Of w) (cmOf i) (k1_pay58 (ldq X (k1_off11 i) (k1_off11_inb i)) (ldq X (k1_off12 i) (k1_off12_inb i)) (ldq X (k1_off13 i) (k1_off13_inb i)) (ldq X (k1_off14 i) (k1_off14_inb i)))
      (k1_pay59 (ldq X (k1_off16 i 0#32) (k1_off16_inb i 0)) (ldq X (k1_off16 i 1#32) (k1_off16_inb i 1)) (ldq X (k1_off16 i 2#32) (k1_off16_inb i 2)))
      (k1_pay60 (ldq X (k1_off15 i 0#32) (k1_off15_inb i 0)) (ldq X (k1_off15 i 1#32) (k1_off15_inb i 1)) (ldq X (k1_off15 i 2#32) (k1_off15_inb i 2)))
      (ix2 (row4 hh r) d) = headVal (qX X) (kX X) (vX X) (pos i r) h d :=
  group_row i H 1 _ _ _ _ _ _ _ _ _ _ (ldq_at X _ _ 4 _ (k1_off11_eq i) 0) (ldq_at X _ _ 5 _ (k1_off12_eq i) 0) (ldq_at X _ _ 6 _ (k1_off13_eq i) 0) (ldq_at X _ _ 7 _ (k1_off14_eq i) 0)
    (ldq_at X _ _ 13 _ (off15_eq i 0) 0) (ldq_at X _ _ 13 _ (off15_eq i 1) 0) (ldq_at X _ _ 13 _ (off15_eq i 2) 0)
    (ldq_at X _ _ 16 _ (off16_eq i 0) 0) (ldq_at X _ _ 16 _ (off16_eq i 1) 0) (ldq_at X _ _ 16 _ (off16_eq i 2) 0) hh r d h eh
theorem group2 (H : Arrays X E w) (hh : Fin 4) (r : Fin 256) (d : Fin 64) (h : Fin 16) (eh : h.val = 4 * 2 + hh.val) :
    k1_pay61 (w3Of w) (cmOf i) (k1_pay58 (ldq X (k1_off17 i) (k1_off17_inb i)) (ldq X (k1_off18 i) (k1_off18_inb i)) (ldq X (k1_off19 i) (k1_off19_inb i)) (ldq X (k1_off20 i) (k1_off20_inb i)))
      (k1_pay59 (ldq X (k1_off22 i 0#32) (k1_off22_inb i 0)) (ldq X (k1_off22 i 1#32) (k1_off22_inb i 1)) (ldq X (k1_off22 i 2#32) (k1_off22_inb i 2)))
      (k1_pay60 (ldq X (k1_off21 i 0#32) (k1_off21_inb i 0)) (ldq X (k1_off21 i 1#32) (k1_off21_inb i 1)) (ldq X (k1_off21 i 2#32) (k1_off21_inb i 2)))
      (ix2 (row4 hh r) d) = headVal (qX X) (kX X) (vX X) (pos i r) h d :=
  group_row i H 2 _ _ _ _ _ _ _ _ _ _ (ldq_at X _ _ 8 _ (k1_off17_eq i) 0) (ldq_at X _ _ 9 _ (k1_off18_eq i) 0) (ldq_at X _ _ 10 _ (k1_off19_eq i) 0) (ldq_at X _ _ 11 _ (k1_off20_eq i) 0)
    (ldq_at X _ _ 14 _ (off21_eq i 0) 0) (ldq_at X _ _ 14 _ (off21_eq i 1) 0) (ldq_at X _ _ 14 _ (off21_eq i 2) 0)
    (ldq_at X _ _ 17 _ (off22_eq i 0) 0) (ldq_at X _ _ 17 _ (off22_eq i 1) 0) (ldq_at X _ _ 17 _ (off22_eq i 2) 0) hh r d h eh

/-- The slices of a stack of four. -/
theorem slice_at (o : Fin 2 → ℕ) (v : FVec Ideal S1024x64 .f32) (hs) (hh : Fin 4) (ho : o = ![256 * hh.val, 0]) (r : Fin 256) (d : Fin 64) :
    extractStridedSlice S256x64 o v hs (ix2 r d) = v (ix2 (row4 hh r) d) := by
  subst ho; pointwise; rfl
theorem slice32_at (o : Fin 2 → ℕ) (v : FVec Ideal S1024x32 .f32) (hs) (hh : Fin 4) (ho : o = ![256 * hh.val, 0]) (r : Fin 256) (d : Fin 32) :
    extractStridedSlice S256x32 o v hs (ix2 r d) = v (ix2 (row4 hh r) d) := by
  subst ho; pointwise; rfl

/-- The chunk means. -/
theorem lmOf_at (H : Arrays X E w) (c : Fin 32) (x : Fin 64) : lmOf X E (ix2 c x) = mean (kX X 3) c x := by
  have e : lmOf X E (ix2 c x) = (∑ j, ldE E (ix2 c j) * ldk X (ix3 0 j x)) * ((1 / 64 : ℝ) : EReal) := by
    unfold lmOf
    generalize ldE E = E'; generalize ldk X = X'
    unfold_payloads; pointwise; rw [sixtyfourth]
  rw [e]; unfold mean
  rw [← sum_chunk c (fun j => kX X 3 j x)]
  congr 1
  refine Finset.sum_congr rfl fun j _ => ?_
  rw [ldE_at, H.chunks, ldk_at]
  split_ifs
  · rw [one_mul]; rfl
  · rw [zero_mul]

theorem hqOf_at (hh : Fin 4) (r : Fin 256) (x : Fin 64) : hqOf i X (ix2 (row4 hh r) x) = qX X ⟨12 + hh.val, by omega⟩ (pos i r) x := by
  have e : hqOf i X = k1_pay58 (ldq X (k1_off1 i) (k1_off1_inb i)) (ldq X (k1_off2 i) (k1_off2_inb i)) (ldq X (k1_off3 i) (k1_off3_inb i)) (ldq X (k1_off4 i) (k1_off4_inb i)) := rfl
  rw [e, stack4_at _ _ _ _ (fun h r d => hd X ⟨18 + h.val, by omega⟩ (256 * (i 0).val + r.val) d)
    (ldq_at X _ _ 18 _ (k1_off1_eq i) 0) (ldq_at X _ _ 19 _ (k1_off2_eq i) 0) (ldq_at X _ _ 20 _ (k1_off3_eq i) 0) (ldq_at X _ _ 21 _ (k1_off4_eq i) 0)]
  have hqp : qp ⟨12 + hh.val, by omega⟩ = ⟨18 + hh.val, by omega⟩ := by unfold qp; rw [dif_neg (by simp)]; exact Fin.ext (by simp only; omega)
  unfold qX; rw [hqp, ← hd_fin X]; rfl

theorem simOf_at (H : Arrays X E w) (hh : Fin 4) (r : Fin 256) (c : Fin 32) :
    simOf i X (lmOf X E) (ix2 (row4 hh r) c) = meanScore (qX X ⟨12 + hh.val, by omega⟩ (pos i r)) (kX X 3) c := by
  have e : ∀ (lm : Vec Ideal S32x64 .f32), simOf i X lm (ix2 (row4 hh r) c) = (∑ x, hqOf i X (ix2 (row4 hh r) x) * lm (ix2 c x)) * ((1 / 8 : ℝ) : EReal) := fun lm => by
    unfold simOf k1_pay4 hqOf
    generalize k1_pay3 _ _ _ _ = q
    pointwise
    rw [eighth]
  rw [e]; unfold meanScore
  simp only [hqOf_at, lmOf_at H]

open Classical in
/-- A compressed head, from its slices. -/
theorem comp_row (H : Arrays X E w) (o : Fin 2 → ℕ) (hs hs') (hh : Fin 4) (ho : o = ![256 * hh.val, 0]) (r : Fin 256) (d : Fin 64) :
    k1_pay71 (k1_pay67 (ldv X)) (winOf i) (hlog (extractStridedSlice S256x64 o (hqOf i X) hs) (k1_pay66 (ldk X)))
      (extractStridedSlice S256x32 o (selOf i (simOf i X (lmOf X E))) hs') (ldE E) (ix2 r d) = headVal (qX X) (kX X) (vX X) (pos i r) ⟨12 + hh.val, by omega⟩ d := by
  have eg : grp ⟨12 + hh.val, by omega⟩ = 3 := Fin.ext (by show (12 + hh.val) / 4 = 3; omega)
  have hv : ∀ j, k1_pay67 (ldv X) (ix2 j d) = vX X 3 j d := fun j => by
    have e : ∀ X', k1_pay67 (F := Ideal) X' (ix2 j d) = X' (ix3 0 j d) := fun X' => by unfold_payloads; pointwise
    rw [e, ldv_at]; rfl
  unfold headVal
  rw [if_neg (by simp), eg]
  simp only [← hv]
  refine hsa_row _ _ _ _ _ r d (keys (pos i r).val _) (keys_nonempty (pos i r) _) _ (fun j => ?_) (fun j => ?_)
  · rw [hlog_at, ← coe_score (fun x => H.realQ _ _ x) (fun j x => H.realK 3 j x)]
    have e : ∀ X' x, k1_pay66 (F := Ideal) X' (ix2 j x) = X' (ix3 0 j x) := fun X' x => by unfold_payloads; pointwise
    congr 1
    refine Finset.sum_congr rfl fun x _ => ?_
    rw [slice_at o _ _ hh ho, hqOf_at, e, ldk_at]; rfl
  · have e : ∑ c, extractStridedSlice S256x32 o (selOf i (simOf i X (lmOf X E))) hs' (ix2 r c) * ldE E (ix2 c j)
        = if taken (pos i r).val (meanScore (qX X ⟨12 + hh.val, by omega⟩ (pos i r)) (kX X 3)) (chunk j) then 1 else 0 := by
      rw [Finset.sum_eq_single (chunk j)]
      · rw [slice32_at o _ _ hh ho, ldE_at, H.chunks, if_pos rfl, mul_one, selOf_at]
        simp only [simOf_at i H]; rfl
      · intro c _ hc; rw [ldE_at, H.chunks, if_neg hc, mul_zero]
      · intro hc; exact absurd (Finset.mem_univ _) hc
    have e2 : winOf (F := Ideal) i (ix2 r j) = if j ∈ win (pos i r).val then 1 else 0 := winOf_at i r j
    rw [e, e2]
    by_cases h1 : j ∈ win (pos i r).val <;> by_cases h2 : taken (pos i r).val (meanScore (qX X ⟨12 + hh.val, by omega⟩ (pos i r)) (kX X 3)) (chunk j)
    · rw [if_pos h1, if_pos h2, if_pos (mem_keys.mpr (.inl h1)), max_self]
    · rw [if_pos h1, if_neg h2, if_pos (mem_keys.mpr (.inl h1))]; simp
    · rw [if_neg h1, if_pos h2, if_pos (mem_keys.mpr (.inr h2))]; simp
    · rw [if_neg h1, if_neg h2, if_neg (fun hk => (mem_keys.mp hk).elim h1 h2), max_self]

set_option maxHeartbeats 4000000 in
/-- Sixteen heads side by side. -/
theorem side_at (p0 p1 p2 p3 p4 p5 p6 p7 p8 p9 p10 p11 p12 p13 p14 p15 : FVec Ideal S256x64 .f32) (r : Fin 256) (f : Fin 16 → Fin 64 → EReal)
     (h0 : ∀ d, p0 (ix2 r d) = f 0 d) (h1 : ∀ d, p1 (ix2 r d) = f 1 d) (h2 : ∀ d, p2 (ix2 r d) = f 2 d) (h3 : ∀ d, p3 (ix2 r d) = f 3 d) (h4 : ∀ d, p4 (ix2 r d) = f 4 d) (h5 : ∀ d, p5 (ix2 r d) = f 5 d) (h6 : ∀ d, p6 (ix2 r d) = f 6 d) (h7 : ∀ d, p7 (ix2 r d) = f 7 d) (h8 : ∀ d, p8 (ix2 r d) = f 8 d) (h9 : ∀ d, p9 (ix2 r d) = f 9 d) (h10 : ∀ d, p10 (ix2 r d) = f 10 d) (h11 : ∀ d, p11 (ix2 r d) = f 11 d) (h12 : ∀ d, p12 (ix2 r d) = f 12 d) (h13 : ∀ d, p13 (ix2 r d) = f 13 d) (h14 : ∀ d, p14 (ix2 r d) = f 14 d) (h15 : ∀ d, p15 (ix2 r d) = f 15 d) (x : Fin 1024) :
    k1_pay80 p0 p1 p2 p3 p4 p5 p6 p7 p8 p9 p10 p11 p12 p13 p14 p15 (ix2 r x) = f ⟨x.val / 64, by omega⟩ ⟨x.val % 64, by omega⟩ := by
  have hP : ∀ n : Fin 16, ∀ d, (![p0, p1, p2, p3, p4, p5, p6, p7, p8, p9, p10, p11, p12, p13, p14, p15] : Fin 16 → FVec Ideal S256x64 .f32) n (ix2 r d) = f n d := by
    intro n; fin_cases n; exacts [h0, h1, h2, h3, h4, h5, h6, h7, h8, h9, h10, h11, h12, h13, h14, h15]
  rw [← hP]
  exact concatenate_ofFn_apply (α := EReal) (s₁ := S256x64) (t := S256x1024) 1 ![p0, p1, p2, p3, p4, p5, p6, p7, p8, p9, p10, p11, p12, p13, p14, p15] concatenates_S256x64_S256x64_S256x64_S256x64_S256x64_S256x64_S256x64_S256x64_S256x64_S256x64_S256x64_S256x64_S256x64_S256x64_S256x64_S256x64_S256x1024_d1 rfl 64 rfl (ix2 r x) ⟨x.val / 64, by omega⟩ rfl _ rfl
    (fun b hb => by fin_cases b; exacts [rfl, absurd rfl hb])

/-- All heads of a row. -/
theorem headsOf_at (H : Arrays X E w) (r : Fin 256) (n : Fin 1024) : headsOf i X E w (hqOf i X) (selOf i (simOf i X (lmOf X E))) (ix2 r n)
    = headVal (qX X) (kX X) (vX X) (pos i r) ⟨n.val / 64, by omega⟩ ⟨n.val % 64, by omega⟩ := by
  unfold headsOf
  refine side_at _ _ _ _ _ _ _ _ _ _ _ _ _ _ _ _ r (headVal (qX X) (kX X) (vX X) (pos i r)) ?_ ?_ ?_ ?_ ?_ ?_ ?_ ?_ ?_ ?_ ?_ ?_ ?_ ?_ ?_ ?_ n <;> intro d
  · exact (slice_at ![0, 0] _ slices_S1024x64_o0_0_S256x64 0 rfl r d).trans (group0 i H 0 r d 0 rfl)
  · exact (slice_at ![256, 0] _ slices_S1024x64_o256_0_S256x64 1 rfl r d).trans (group0 i H 1 r d 1 rfl)
  · exact (slice_at ![512, 0] _ slices_S1024x64_o512_0_S256x64 2 rfl r d).trans (group0 i H 2 r d 2 rfl)
  · exact (slice_at ![768, 0] _ slices_S1024x64_o768_0_S256x64 3 rfl r d).trans (group0 i H 3 r d 3 rfl)
  · exact (slice_at ![0, 0] _ slices_S1024x64_o0_0_S256x64 0 rfl r d).trans (group1 i H 0 r d 4 rfl)
  · exact (slice_at ![256, 0] _ slices_S1024x64_o256_0_S256x64 1 rfl r d).trans (group1 i H 1 r d 5 rfl)
  · exact (slice_at ![512, 0] _ slices_S1024x64_o512_0_S256x64 2 rfl r d).trans (group1 i H 2 r d 6 rfl)
  · exact (slice_at ![768, 0] _ slices_S1024x64_o768_0_S256x64 3 rfl r d).trans (group1 i H 3 r d 7 rfl)
  · exact (slice_at ![0, 0] _ slices_S1024x64_o0_0_S256x64 0 rfl r d).trans (group2 i H 0 r d 8 rfl)
  · exact (slice_at ![256, 0] _ slices_S1024x64_o256_0_S256x64 1 rfl r d).trans (group2 i H 1 r d 9 rfl)
  · exact (slice_at ![512, 0] _ slices_S1024x64_o512_0_S256x64 2 rfl r d).trans (group2 i H 2 r d 10 rfl)
  · exact (slice_at ![768, 0] _ slices_S1024x64_o768_0_S256x64 3 rfl r d).trans (group2 i H 3 r d 11 rfl)
  · rw [hsa_0_eq]; exact comp_row i H ![0, 0] _ _ 0 rfl r d
  · rw [hsa_1_eq]; exact comp_row i H ![256, 0] _ _ 1 rfl r d
  · rw [hsa_2_eq]; exact comp_row i H ![512, 0] _ _ 2 rfl r d
  · rw [hsa_3_eq]; exact comp_row i H ![768, 0] _ _ 3 rfl r d

/-- The output projection. -/
theorem matmul_at (A : FVec Ideal S256x1024 .f32) (o : FVec Ideal S1024x1024 .f32) (r : Fin 256) (n : Fin 1024) :
    k1_pay1 A o (constant S256x1024 .f32 0x00000000#32) (ix2 r n) = ∑ x, A (ix2 r x) * o (ix2 n x) := by
  unfold_payloads; pointwise

/-- The block of the output that one step writes. -/
theorem payOf_at (o : Vec Ideal S1024x1024 .f32) (H : Arrays X E w) (r : Fin 256) (n : Fin 1024) : payOf i X E w o (lmOf X E) (ix2 r n)
    = outVal (qX X) (kX X) (vX X) (pos i r) (fun x => o (ix2 n x)) := by
  unfold payOf outVal
  rw [matmul_at]
  refine Finset.sum_congr rfl fun x _ => ?_
  rw [headsOf_at i H, ldo_at]

end Cert.KernelIdeal.Own

end
-- ==== Proof.Ki.Arrays.lean ====
/- The two calls: what their output arrays hold at the end. -/
module

public import proofs.«01_k».proof.Proof.Ki.Planes
public import proofs.«01_k».proof.Proof.Ki.Block
public import proofs.«01_k».proof.Proof.Ki.Fused

@[expose] public section

set_option maxRecDepth 16384

noncomputable section

namespace Cert.KernelIdeal.Own

open Cert.KernelIdeal.Gen
open Idealize.ShloMosaic Idealize.ShloMosaic.TcCoe Idealize.ShloMosaic.Tactic
open Cert.Attn Cert.Words

variable (V : (c : Dev nD) → (b : Ref sig .tc) → Buf (Elt Ideal) ((c : Thread nD τ).loc b)) (c : Dev nD)

/-! ## Blocks read off their arrays -/

theorem index0_0 : ∀ t : Fin grid0.N, win0_0.index t = ![t.val, 0] := by decide +kernel
theorem iblk0_0_at (t : Fin cfg0.N) (r : Fin 256) (k : Fin 1024) : iblk0 V c 0 t (ix2 r k) = V c main_v0 (ix2 ⟨256 * t.val + r.val, by have h := t.isLt; have hN : cfg0.N = 8 := N_0; omega⟩ k) := by
  show V c main_v0 _ = _
  congr 1
  funext a
  apply Fin.ext
  have e := index0_0 t
  have e0 : win0_0.index t 0 = t.val := by rw [e]; rfl
  have e1 : win0_0.index t 1 = 0 := by rw [e]; rfl
  match a with
  | ⟨0, _⟩ => show win0_0.index t 0 * 256 + 1 * r.val = 256 * t.val + r.val; omega
  | ⟨1, _⟩ => show win0_0.index t 1 * 1024 + 1 * k.val = k.val; omega
theorem index0_1 : ∀ t : Fin grid0.N, win0_1.index t = ![0, 0] := by decide +kernel
theorem iblk0_1_at (t : Fin cfg0.N) (r : Fin 768) (k : Fin 1024) : iblk0 V c 1 t (ix2 r k) = V c main_arg1 (ix2 r k) := by
  show V c main_arg1 _ = _
  congr 1
  funext a
  apply Fin.ext
  have e := index0_1 t
  have e0 : win0_1.index t 0 = 0 := by rw [e]; rfl
  have e1 : win0_1.index t 1 = 0 := by rw [e]; rfl
  match a with
  | ⟨0, _⟩ => show win0_1.index t 0 * 768 + 1 * r.val = r.val; omega
  | ⟨1, _⟩ => show win0_1.index t 1 * 1024 + 1 * k.val = k.val; omega
theorem index0_2 : ∀ t : Fin grid0.N, win0_2.index t = ![0, 0] := by decide +kernel
theorem iblk0_2_at (t : Fin cfg0.N) (r : Fin 192) (k : Fin 1024) : iblk0 V c 2 t (ix2 r k) = V c main_arg2 (ix2 r k) := by
  show V c main_arg2 _ = _
  congr 1
  funext a
  apply Fin.ext
  have e := index0_2 t
  have e0 : win0_2.index t 0 = 0 := by rw [e]; rfl
  have e1 : win0_2.index t 1 = 0 := by rw [e]; rfl
  match a with
  | ⟨0, _⟩ => show win0_2.index t 0 * 192 + 1 * r.val = r.val; omega
  | ⟨1, _⟩ => show win0_2.index t 1 * 1024 + 1 * k.val = k.val; omega
theorem index0_3 : ∀ t : Fin grid0.N, win0_3.index t = ![0, 0] := by decide +kernel
theorem iblk0_3_at (t : Fin cfg0.N) (r : Fin 192) (k : Fin 1024) : iblk0 V c 3 t (ix2 r k) = V c main_arg3 (ix2 r k) := by
  show V c main_arg3 _ = _
  congr 1
  funext a
  apply Fin.ext
  have e := index0_3 t
  have e0 : win0_3.index t 0 = 0 := by rw [e]; rfl
  have e1 : win0_3.index t 1 = 0 := by rw [e]; rfl
  match a with
  | ⟨0, _⟩ => show win0_3.index t 0 * 192 + 1 * r.val = r.val; omega
  | ⟨1, _⟩ => show win0_3.index t 1 * 1024 + 1 * k.val = k.val; omega
theorem index0_4 : ∀ t : Fin grid0.N, win0_4.index t = ![0, 0] := by decide +kernel
theorem iblk0_4_at (t : Fin cfg0.N) (r : Fin 256) (k : Fin 1024) : iblk0 V c 4 t (ix2 r k) = V c main_arg4 (ix2 r k) := by
  show V c main_arg4 _ = _
  congr 1
  funext a
  apply Fin.ext
  have e := index0_4 t
  have e0 : win0_4.index t 0 = 0 := by rw [e]; rfl
  have e1 : win0_4.index t 1 = 0 := by rw [e]; rfl
  match a with
  | ⟨0, _⟩ => show win0_4.index t 0 * 256 + 1 * r.val = r.val; omega
  | ⟨1, _⟩ => show win0_4.index t 1 * 1024 + 1 * k.val = k.val; omega
theorem index0_5 : ∀ t : Fin grid0.N, win0_5.index t = ![0, 0] := by decide +kernel
theorem iblk0_5_at (t : Fin cfg0.N) (r : Fin 64) (k : Fin 1024) : iblk0 V c 5 t (ix2 r k) = V c main_arg5 (ix2 r k) := by
  show V c main_arg5 _ = _
  congr 1
  funext a
  apply Fin.ext
  have e := index0_5 t
  have e0 : win0_5.index t 0 = 0 := by rw [e]; rfl
  have e1 : win0_5.index t 1 = 0 := by rw [e]; rfl
  match a with
  | ⟨0, _⟩ => show win0_5.index t 0 * 64 + 1 * r.val = r.val; omega
  | ⟨1, _⟩ => show win0_5.index t 1 * 1024 + 1 * k.val = k.val; omega
theorem index0_6 : ∀ t : Fin grid0.N, win0_6.index t = ![0, 0] := by decide +kernel
theorem iblk0_6_at (t : Fin cfg0.N) (r : Fin 64) (k : Fin 1024) : iblk0 V c 6 t (ix2 r k) = V c main_arg6 (ix2 r k) := by
  show V c main_arg6 _ = _
  congr 1
  funext a
  apply Fin.ext
  have e := index0_6 t
  have e0 : win0_6.index t 0 = 0 := by rw [e]; rfl
  have e1 : win0_6.index t 1 = 0 := by rw [e]; rfl
  match a with
  | ⟨0, _⟩ => show win0_6.index t 0 * 64 + 1 * r.val = r.val; omega
  | ⟨1, _⟩ => show win0_6.index t 1 * 1024 + 1 * k.val = k.val; omega
theorem index0_7 : ∀ t : Fin grid0.N, win0_7.index t = ![t.val, 0] := by decide +kernel
theorem iblk0_7_at (t : Fin cfg0.N) (r : Fin 256) (k : Fin 64) : iblk0 V c 7 t (ix2 r k) = V c main_v21 (ix2 ⟨256 * t.val + r.val, by have h := t.isLt; have hN : cfg0.N = 8 := N_0; omega⟩ k) := by
  show V c main_v21 _ = _
  congr 1
  funext a
  apply Fin.ext
  have e := index0_7 t
  have e0 : win0_7.index t 0 = t.val := by rw [e]; rfl
  have e1 : win0_7.index t 1 = 0 := by rw [e]; rfl
  match a with
  | ⟨0, _⟩ => show win0_7.index t 0 * 256 + 1 * r.val = 256 * t.val + r.val; omega
  | ⟨1, _⟩ => show win0_7.index t 1 * 64 + 1 * k.val = k.val; omega
theorem index0_8 : ∀ t : Fin grid0.N, win0_8.index t = ![t.val, 0] := by decide +kernel
theorem iblk0_8_at (t : Fin cfg0.N) (r : Fin 256) (k : Fin 64) : iblk0 V c 8 t (ix2 r k) = V c main_v22 (ix2 ⟨256 * t.val + r.val, by have h := t.isLt; have hN : cfg0.N = 8 := N_0; omega⟩ k) := by
  show V c main_v22 _ = _
  congr 1
  funext a
  apply Fin.ext
  have e := index0_8 t
  have e0 : win0_8.index t 0 = t.val := by rw [e]; rfl
  have e1 : win0_8.index t 1 = 0 := by rw [e]; rfl
  match a with
  | ⟨0, _⟩ => show win0_8.index t 0 * 256 + 1 * r.val = 256 * t.val + r.val; omega
  | ⟨1, _⟩ => show win0_8.index t 1 * 64 + 1 * k.val = k.val; omega
theorem index0_9 : ∀ t : Fin grid0.N, win0_9.index t = ![0, 0] := by decide +kernel
theorem iblk0_9_at (t : Fin cfg0.N) (r : Fin 1) (k : Fin 64) : iblk0 V c 9 t (ix2 r k) = V c main_v23 (ix2 r k) := by
  show V c main_v23 _ = _
  congr 1
  funext a
  apply Fin.ext
  have e := index0_9 t
  have e0 : win0_9.index t 0 = 0 := by rw [e]; rfl
  have e1 : win0_9.index t 1 = 0 := by rw [e]; rfl
  match a with
  | ⟨0, _⟩ => show win0_9.index t 0 * 1 + 1 * r.val = r.val; omega
  | ⟨1, _⟩ => show win0_9.index t 1 * 64 + 1 * k.val = k.val; omega
theorem index0_10 : ∀ t : Fin grid0.N, win0_10.index t = ![0, 0] := by decide +kernel
theorem iblk0_10_at (t : Fin cfg0.N) (r : Fin 1) (k : Fin 64) : iblk0 V c 10 t (ix2 r k) = V c main_v24 (ix2 r k) := by
  show V c main_v24 _ = _
  congr 1
  funext a
  apply Fin.ext
  have e := index0_10 t
  have e0 : win0_10.index t 0 = 0 := by rw [e]; rfl
  have e1 : win0_10.index t 1 = 0 := by rw [e]; rfl
  match a with
  | ⟨0, _⟩ => show win0_10.index t 0 * 1 + 1 * r.val = r.val; omega
  | ⟨1, _⟩ => show win0_10.index t 1 * 64 + 1 * k.val = k.val; omega
theorem index1_0 : ∀ t : Fin grid1.N, win1_0.index t = ![0, 0, 0] := by decide +kernel
theorem iblk1_0_at (t : Fin cfg1.N) (p : Fin 24) (r : Fin 2048) (x : Fin 64) : iblk1 V c 0 t (ix3 p r x) = V c main_v25 (ix3 p r x) := by
  show V c main_v25 _ = _
  congr 1
  funext a
  apply Fin.ext
  have e := index1_0 t
  have e0 : win1_0.index t 0 = 0 := by rw [e]; rfl
  have e1 : win1_0.index t 1 = 0 := by rw [e]; rfl
  have e2 : win1_0.index t 2 = 0 := by rw [e]; rfl
  match a with
  | ⟨0, _⟩ => show win1_0.index t 0 * 24 + 1 * p.val = p.val; omega
  | ⟨1, _⟩ => show win1_0.index t 1 * 2048 + 1 * r.val = r.val; omega
  | ⟨2, _⟩ => show win1_0.index t 2 * 64 + 1 * x.val = x.val; omega
theorem index1_1 : ∀ t : Fin grid1.N, win1_1.index t = ![0, 0] := by decide +kernel
theorem iblk1_1_at (t : Fin cfg1.N) (r : Fin 32) (k : Fin 2048) : iblk1 V c 1 t (ix2 r k) = V c main_v34 (ix2 r k) := by
  show V c main_v34 _ = _
  congr 1
  funext a
  apply Fin.ext
  have e := index1_1 t
  have e0 : win1_1.index t 0 = 0 := by rw [e]; rfl
  have e1 : win1_1.index t 1 = 0 := by rw [e]; rfl
  match a with
  | ⟨0, _⟩ => show win1_1.index t 0 * 32 + 1 * r.val = r.val; omega
  | ⟨1, _⟩ => show win1_1.index t 1 * 2048 + 1 * k.val = k.val; omega
theorem index1_2 : ∀ t : Fin grid1.N, win1_2.index t = ![0, 0] := by decide +kernel
theorem iblk1_2_at (t : Fin cfg1.N) (r : Fin 1024) (k : Fin 768) : iblk1 V c 2 t (ix2 r k) = V c main_v53 (ix2 r k) := by
  show V c main_v53 _ = _
  congr 1
  funext a
  apply Fin.ext
  have e := index1_2 t
  have e0 : win1_2.index t 0 = 0 := by rw [e]; rfl
  have e1 : win1_2.index t 1 = 0 := by rw [e]; rfl
  match a with
  | ⟨0, _⟩ => show win1_2.index t 0 * 1024 + 1 * r.val = r.val; omega
  | ⟨1, _⟩ => show win1_2.index t 1 * 768 + 1 * k.val = k.val; omega
theorem index1_3 : ∀ t : Fin grid1.N, win1_3.index t = ![0, 0] := by decide +kernel
theorem iblk1_3_at (t : Fin cfg1.N) (r : Fin 1024) (k : Fin 1024) : iblk1 V c 3 t (ix2 r k) = V c main_arg7 (ix2 r k) := by
  show V c main_arg7 _ = _
  congr 1
  funext a
  apply Fin.ext
  have e := index1_3 t
  have e0 : win1_3.index t 0 = 0 := by rw [e]; rfl
  have e1 : win1_3.index t 1 = 0 := by rw [e]; rfl
  match a with
  | ⟨0, _⟩ => show win1_3.index t 0 * 1024 + 1 * r.val = r.val; omega
  | ⟨1, _⟩ => show win1_3.index t 1 * 1024 + 1 * k.val = k.val; omega

/-! ## The projections -/

/-- What the projection call computes from, as it finds its arrays. -/
def insOf : Ins where
  a s k := V c main_v0 (ix2 s k)
  wq n k := V c main_arg1 (ix2 n k)
  wk n k := V c main_arg2 (ix2 n k)
  wv n k := V c main_arg3 (ix2 n k)
  uq n k := V c main_arg4 (ix2 n k)
  uk n k := V c main_arg5 (ix2 n k)
  uv n k := V c main_arg6 (ix2 n k)
  cs s x := V c main_v21 (ix2 s x)
  sn s x := V c main_v22 (ix2 s x)
  qn x := V c main_v23 (ix2 0 x)
  kn x := V c main_v24 (ix2 0 x)

theorem blocks_of (t : Fin cfg0.N) (r : Fin 256) :
    Blocks (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
      (insOf V c) r ⟨256 * t.val + r.val, by have h := t.isLt; have hN : cfg0.N = 8 := N_0; omega⟩ where
  a k := iblk0_0_at V c t r k
  wq n k := iblk0_1_at V c t n k
  wk n k := iblk0_2_at V c t n k
  wv n k := iblk0_3_at V c t n k
  uq n k := iblk0_4_at V c t n k
  uk n k := iblk0_5_at V c t n k
  uv n k := iblk0_6_at V c t n k
  cs x := iblk0_7_at V c t r x
  sn x := iblk0_8_at V c t r x
  qn x := iblk0_9_at V c t 0 x
  kn x := iblk0_10_at V c t 0 x

theorem index0_11 : ∀ t : Fin grid0.N, win0_11.index t = ![0, t.val, 0] := by decide +kernel

theorem mem_blk0_11 (t : Fin cfg0.N) (i : S24x2048x64.Idx) :
    i ∈ ((cfg0.win 11).blk t).view.set ↔ ∀ a : Fin 3, win0_11.index t a * S24x256x64.size a ≤ (i a).val ∧ (i a).val < win0_11.index t a * S24x256x64.size a + S24x256x64.size a := by
  show i ∈ ((View.whole main_v25).slice (win0_11.rect t)).set ↔ _
  rw [View.set_slice_whole, Rect.mem_set_unit]
  exact Iff.rfl

/-- The array of projections, plane by plane. -/
theorem proj_array : (dat0 V c).arrAt 11 cfg0.N = fun i : S24x2048x64.Idx => (insOf V c).plane (i 0) (i 1) (i 2) := by
  refine (dat0 V c).arrAt_eq_of_cover 11 _ (fun t hf => ?_) (fun i => ?_)
  · show (cfg0.win 11).cut (grid0.coords t) ((dat0 V c).after 11 t) = _
    rw [after0_11]
    funext y
    have hN : cfg0.N = 8 := N_0
    have ht : t.val < cfg0.N := t.isLt
    have e := index0_11 t
    have hy1 : (y 1).val < 256 := (show S24x256x64.Idx from y) 1 |>.isLt
    have e0 : (cfg0.win 11).xinj (grid0.coords t) y = ix3 (y 0) (y 1) (y 2) := by
      funext a
      match a with | ⟨0, _⟩ => rfl | ⟨1, _⟩ => rfl | ⟨2, _⟩ => rfl
    have e1 : ((cfg0.win 11).blk t).view.emb y = ix3 (y 0) (⟨256 * t.val + (y 1).val, by omega⟩ : Fin 2048) (y 2) := by
      funext a
      apply Fin.ext
      have q0 : win0_11.index t 0 = 0 := by rw [e]; rfl
      have q1 : win0_11.index t 1 = t.val := by rw [e]; rfl
      have q2 : win0_11.index t 2 = 0 := by rw [e]; rfl
      match a with
      | ⟨0, _⟩ => show win0_11.index t 0 * 24 + 1 * (y 0).val = (y 0).val; omega
      | ⟨1, _⟩ => show win0_11.index t 1 * 256 + 1 * (y 1).val = 256 * t.val + (y 1).val; omega
      | ⟨2, _⟩ => show win0_11.index t 2 * 64 + 1 * (y 2).val = (y 2).val; omega
    show out0_11 (F := Ideal) _ _ _ _ _ _ _ _ _ _ _ ((cfg0.win 11).xinj (grid0.coords t) y) = (fun i : S24x2048x64.Idx => (insOf V c).plane (i 0) (i 1) (i 2)) (((cfg0.win 11).blk t).view.emb y)
    rw [e0, e1]
    exact out0_at (blocks_of V c t (y 1)) (y 0) (y 2)
  · have h0 : (i 0).val < 24 := (i 0).isLt
    have h1 : (i 1).val < 2048 := (i 1).isLt
    have h2 : (i 2).val < 64 := (i 2).isLt
    let t : Fin cfg0.N := ⟨(i 1).val / 256, by have hN : cfg0.N = 8 := N_0; omega⟩
    refine ⟨t, flush0_11 t, ?_⟩
    rw [mem_blk0_11]
    have e := index0_11 t
    have q0 : win0_11.index t 0 = 0 := by rw [e]; rfl
    have q1 : win0_11.index t 1 = (i 1).val / 256 := by rw [e]; rfl
    have q2 : win0_11.index t 2 = 0 := by rw [e]; rfl
    intro a
    match a with
    | ⟨0, _⟩ => show win0_11.index t 0 * 24 ≤ (i 0).val ∧ (i 0).val < win0_11.index t 0 * 24 + 24; omega
    | ⟨1, _⟩ => show win0_11.index t 1 * 256 ≤ (i 1).val ∧ (i 1).val < win0_11.index t 1 * 256 + 256; omega
    | ⟨2, _⟩ => show win0_11.index t 2 * 64 ≤ (i 2).val ∧ (i 2).val < win0_11.index t 2 * 64 + 64; omega

/-! ## The attention -/

theorem index1_4 : ∀ t : Fin grid1.N, win1_4.index t = ![t.val, 0] := by decide +kernel
theorem coords1 : ∀ t : Fin grid1.N, (grid1.coords t 0).val = t.val := by decide +kernel

theorem mem_blk1_4 (t : Fin cfg1.N) (i : S2048x1024.Idx) :
    i ∈ ((cfg1.win 4).blk t).view.set ↔ ∀ a : Fin 2, win1_4.index t a * S256x1024.size a ≤ (i a).val ∧ (i a).val < win1_4.index t a * S256x1024.size a + S256x1024.size a := by
  show i ∈ ((View.whole main_v54).slice (win1_4.rect t)).set ↔ _
  rw [View.set_slice_whole, Rect.mem_set_unit]
  exact Iff.rfl

theorem same_blocks (t : Fin cfg1.N) :
    iblk1 V c 0 t = V c main_v25 ∧ iblk1 V c 1 t = V c main_v34 ∧ iblk1 V c 2 t = V c main_v53 ∧ iblk1 V c 3 t = V c main_arg7 := by
  refine ⟨?_, ?_, ?_, ?_⟩
  · exact funext fun y : S24x2048x64.Idx => by rw [eq_ix3 y]; exact iblk1_0_at V c t _ _ _
  · exact funext fun y : S32x2048.Idx => by rw [eq_ix2 y]; exact iblk1_1_at V c t _ _
  · exact funext fun y : S1024x768.Idx => by rw [eq_ix2 y]; exact iblk1_2_at V c t _ _
  · exact funext fun y : S1024x1024.Idx => by rw [eq_ix2 y]; exact iblk1_3_at V c t _ _

/-- The output array, row by row. -/
theorem attn_array (H : Arrays (V c main_v25) (V c main_v34) (V c main_v53)) :
    (dat1 V c).arrAt 4 cfg1.N = fun i : S2048x1024.Idx => outVal (qX (V c main_v25)) (kX (V c main_v25)) (vX (V c main_v25)) (i 0) (fun x => V c main_arg7 (ix2 (i 1) x)) := by
  refine (dat1 V c).arrAt_eq_of_cover 4 _ (fun t hf => ?_) (fun i => ?_)
  · show (cfg1.win 4).cut (grid1.coords t) ((dat1 V c).after 4 t) = _
    have ea : (dat1 V c).after 4 t = payOf (grid1.coords t) (V c main_v25) (V c main_v34) (V c main_v53) (V c main_arg7) (lmOf (V c main_v25) (V c main_v34)) := by
      have e1 : (dat1 V c).after 4 t = View.canon [⟨rout, payOf (grid1.coords t) (iblk1 V c 0 t) (iblk1 V c 1 t) (iblk1 V c 2 t) (iblk1 V c 3 t) (lmAt V c)⟩] := by dsimp only [dat1]
      obtain ⟨b0, b1, b2, b3⟩ := same_blocks V c t
      rw [e1, b0, b1, b2, b3]
      unfold lmAt
      rw [(same_blocks V c _).1, (same_blocks V c _).2.1]
      exact View.canon_cons_unit_lit _ _ _ (by decide)
    rw [ea]
    funext y
    have hN : cfg1.N = 8 := N_1
    have ht : t.val < cfg1.N := t.isLt
    have e := index1_4 t
    have hy0 : (y 0).val < 256 := (y 0).isLt
    have e0 : (cfg1.win 4).xinj (grid1.coords t) y = ix2 (y 0) (y 1) := by
      funext a
      match a with | ⟨0, _⟩ => rfl | ⟨1, _⟩ => rfl
    have e1 : ((cfg1.win 4).blk t).view.emb y = ix2 (pos (grid1.coords t) (y 0)) (y 1) := by
      funext a
      apply Fin.ext
      have q0 : win1_4.index t 0 = t.val := by rw [e]; rfl
      have q1 : win1_4.index t 1 = 0 := by rw [e]; rfl
      have q2 := coords1 t
      match a with
      | ⟨0, _⟩ => show win1_4.index t 0 * 256 + 1 * (y 0).val = 256 * (grid1.coords t 0).val + (y 0).val; omega
      | ⟨1, _⟩ => show win1_4.index t 1 * 1024 + 1 * (y 1).val = (y 1).val; omega
    show payOf (grid1.coords t) (V c main_v25) (V c main_v34) (V c main_v53) (V c main_arg7) _ ((cfg1.win 4).xinj (grid1.coords t) y)
      = (fun i : S2048x1024.Idx => outVal (qX (V c main_v25)) (kX (V c main_v25)) (vX (V c main_v25)) (i 0) (fun x => V c main_arg7 (ix2 (i 1) x))) (((cfg1.win 4).blk t).view.emb y)
    rw [e0, e1]
    exact payOf_at (grid1.coords t) _ H (y 0) (y 1)
  · have h0 : (i 0).val < 2048 := (i 0).isLt
    have h1 : (i 1).val < 1024 := (i 1).isLt
    let t : Fin cfg1.N := ⟨(i 0).val / 256, by have hN : cfg1.N = 8 := N_1; omega⟩
    refine ⟨t, flush1_4 t, ?_⟩
    rw [mem_blk1_4]
    have e := index1_4 t
    have q0 : win1_4.index t 0 = (i 0).val / 256 := by rw [e]; rfl
    have q1 : win1_4.index t 1 = 0 := by rw [e]; rfl
    intro a
    match a with
    | ⟨0, _⟩ => show win1_4.index t 0 * 256 ≤ (i 0).val ∧ (i 0).val < win1_4.index t 0 * 256 + 256; omega
    | ⟨1, _⟩ => show win1_4.index t 1 * 1024 ≤ (i 1).val ∧ (i 1).val < win1_4.index t 1 * 1024 + 1024; omega

end Cert.KernelIdeal.Own

end
-- ==== Proof.Math.Layer.lean ====
/- The layer's inputs, from its ten arguments; the angles of the rotation are real numbers. -/
module

public import proofs.«01_k».proof.Proof.Math.Heads
public import Idealize.ShloMosaic.Lib.Pointwise

@[expose] public section

noncomputable section

namespace Cert.Attn

open Idealize.ShloMosaic Cert.Words

/-- The angle by which position `s` turns lane `j` of a half. -/
def angle (s j : ℕ) : EReal :=
  FloatOps.sitofp (F := Ideal) FTy.f32 (BitVec.ofNat 32 s) *
    Ideal.div 1 (Ideal.pow (Ideal.ofBits FTy.f32 1176256512#32)
      (Ideal.div (FloatOps.sitofp (F := Ideal) FTy.f32 (IntOp.addi 0#32 (IntOp.muli 2#32 (BitVec.ofNat 32 j)))) (Ideal.ofBits FTy.f32 1115684864#32)))

/-- Both halves of a row turn by the same angles. -/
def angleAt (s : Fin 2048) (x : Fin 64) : EReal := if x.val < 32 then angle s x.val else angle s (x.val - 32)

/-- The base of the angles is a positive number. -/
theorem base_pos : ∃ r : ℝ, 0 < r ∧ Ideal.ofBits FTy.f32 1176256512#32 = (r : EReal) := by
  refine ⟨_, ?_, by simp only [Ideal.ofBits]; simp [Ideal.ieee, -EReal.coe_mul]; rfl⟩
  norm_num

theorem angle_real (s j : ℕ) : IsReal (angle s j) := by
  obtain ⟨b, hb, hB⟩ := base_pos
  have e : Ideal.ofBits FTy.f32 1115684864#32 = ((64 : ℝ) : EReal) := sixtyfour
  unfold angle
  refine IsReal.mul ⟨_, rfl⟩ ?_
  rw [hB, e, div_coe _ (by norm_num)]
  obtain ⟨y, hy⟩ : IsReal (FloatOps.sitofp (F := Ideal) FTy.f32 (IntOp.addi 0#32 (IntOp.muli 2#32 (BitVec.ofNat 32 j))) * (((64 : ℝ)⁻¹ : ℝ) : EReal)) :=
    IsReal.mul ⟨_, rfl⟩ (IsReal.coe _)
  rw [hy]
  show IsReal (Ideal.div 1 ((b ^ y : ℝ) : EReal))
  rw [div_coe _ (Real.rpow_pos_of_pos hb y)]
  exact IsReal.one.mul (IsReal.coe _)

theorem angleAt_real (s : Fin 2048) (x : Fin 64) : IsReal (angleAt s x) := by
  unfold angleAt
  by_cases h : x.val < 32
  · rw [if_pos h]; exact angle_real _ _
  · rw [if_neg h]; exact angle_real _ _

theorem cos_real {a : EReal} (h : IsReal a) : IsReal (Ideal.cos a) := by obtain ⟨r, rfl⟩ := h; exact ⟨Real.cos r, rfl⟩
theorem sin_real {a : EReal} (h : IsReal a) : IsReal (Ideal.sin a) := by obtain ⟨r, rfl⟩ := h; exact ⟨Real.sin r, rfl⟩

variable (a0 : Vec Ideal ⟨3, ![1, 2048, 1024]⟩ .f32) (a1 : Vec Ideal ⟨2, ![768, 1024]⟩ .f32) (a2 a3 : Vec Ideal ⟨2, ![192, 1024]⟩ .f32)
  (a4 : Vec Ideal ⟨2, ![256, 1024]⟩ .f32) (a5 a6 : Vec Ideal ⟨2, ![64, 1024]⟩ .f32) (a8 a9 : Vec Ideal ⟨1, ![64]⟩ .f32)

/-- The layer's inputs, from its arguments. -/
def layer : Ins where
  a s k := a0 (ix3 0 s k)
  wq n k := a1 (ix2 n k)
  wk n k := a2 (ix2 n k)
  wv n k := a3 (ix2 n k)
  uq n k := a4 (ix2 n k)
  uk n k := a5 (ix2 n k)
  uv n k := a6 (ix2 n k)
  cs s x := Ideal.cos (angleAt s x)
  sn s x := Ideal.sin (angleAt s x)
  qn x := a8 (ix1 x)
  kn x := a9 (ix1 x)

/-- Real arguments give real inputs. -/
theorem layer_real (h0 : ∀ i, IsReal (a0 i)) (h1 : ∀ i, IsReal (a1 i)) (h2 : ∀ i, IsReal (a2 i)) (h4 : ∀ i, IsReal (a4 i)) (h5 : ∀ i, IsReal (a5 i))
    (h8 : ∀ i, IsReal (a8 i)) (h9 : ∀ i, IsReal (a9 i)) : (layer a0 a1 a2 a3 a4 a5 a6 a8 a9).Real where
  a _ _ := h0 _
  wq _ _ := h1 _
  wk _ _ := h2 _
  uq _ _ := h4 _
  uk _ _ := h5 _
  cs _ _ := cos_real (angleAt_real _ _)
  sn _ _ := sin_real (angleAt_real _ _)
  qn _ := h8 _
  kn _ := h9 _

/-- The layer's result. -/
def resultOf (I : Ins) (o : Vec Ideal ⟨2, ![1024, 1024]⟩ .f32) : FVec Ideal ⟨3, ![1, 2048, 1024]⟩ .f32 :=
  fun i => outVal I.q I.k I.v (i 1) (fun x => o (ix2 (i 2) x))

end Cert.Attn

end
-- ==== Proof.Ki.Host.lean ====
/- What the host operations around the two calls compute, and the whole program's result. -/
module

public import proofs.«01_k».proof.Proof.Ki.Arrays
public import proofs.«01_k».proof.Proof.Ki.Run
public import proofs.«01_k».proof.Proof.Math.Layer
public import Idealize.ShloMosaic.Lib.Pointwise
public import Idealize.ShloMosaic.Lib.Tactic.CleanTypes

@[expose] public section

set_option maxRecDepth 16384

noncomputable section

namespace Cert.KernelIdeal.Own

open Cert.KernelIdeal.Gen
open Idealize.ShloMosaic Idealize.ShloMosaic.TcCoe Idealize.ShloMosaic.Tactic
open Cert.Attn Cert.Words

/-- A bit, read as a number. -/
theorem bit_word (p : Prop) [Decidable p] : FloatOps.uitofp (F := Ideal) FTy.f32 (BitVec.ofBool (decide p)) = if p then 1 else 0 := by
  by_cases h : p
  · rw [if_pos h, decide_eq_true h]; show (((1#1).toNat : ℝ) : EReal) = 1; norm_num
  · rw [if_neg h, decide_eq_false h]; show (((0#1).toNat : ℝ) : EReal) = 0; norm_num

section Stretches
variable (W : Valuation τ sig (Elt Ideal))

/-! ## Before the first call -/

theorem v0_at (s : Fin 2048) (k : Fin 1024) : (StableHlo.after hostOps0 W (Proc.devRef .tc main_v0) : FVec Ideal S2048x1024 .f32) (ix2 s k) = W (Proc.devRef .tc main_arg0) (ix3 0 s k) := by
  simp only [hostOps0]
  after_results_simp
  clean_types
  pointwise

theorem v21_at (s : Fin 2048) (x : Fin 64) : (StableHlo.after hostOps0 W (Proc.devRef .tc main_v21) : FVec Ideal S2048x64 .f32) (ix2 s x) = Ideal.cos (angleAt s x) := by
  simp only [hostOps0]
  after_results_simp
  clean_types
  pointwise
  unfold angleAt angle
  by_cases h : x.val < 32
  · rw [dif_pos h, if_pos h]
    after_results_simp
    clean_types
    pointwise
  · rw [dif_neg h, if_neg h]
    after_results_simp
    clean_types
    pointwise

theorem v22_at (s : Fin 2048) (x : Fin 64) : (StableHlo.after hostOps0 W (Proc.devRef .tc main_v22) : FVec Ideal S2048x64 .f32) (ix2 s x) = Ideal.sin (angleAt s x) := by
  simp only [hostOps0]
  after_results_simp
  clean_types
  pointwise
  unfold angleAt angle
  by_cases h : x.val < 32
  · rw [dif_pos h, if_pos h]
    after_results_simp
    clean_types
    pointwise
  · rw [dif_neg h, if_neg h]
    after_results_simp
    clean_types
    pointwise

theorem v23_at (x : Fin 64) : (StableHlo.after hostOps0 W (Proc.devRef .tc main_v23) : FVec Ideal S1x64 .f32) (ix2 0 x) = W (Proc.devRef .tc main_arg8) (ix1 x) := by
  simp only [hostOps0]
  after_results_simp
  clean_types
  pointwise

theorem v24_at (x : Fin 64) : (StableHlo.after hostOps0 W (Proc.devRef .tc main_v24) : FVec Ideal S1x64 .f32) (ix2 0 x) = W (Proc.devRef .tc main_arg9) (ix1 x) := by
  simp only [hostOps0]
  after_results_simp
  clean_types
  pointwise

/-! ## Between the calls: the chunk indicator and the window factors -/

theorem v27_at (c : Fin 32) : (StableHlo.after hostOps1 W (Proc.devRef .tc main_v27) : IVec S32 32) (ix1 c) = BitVec.ofNat 32 c.val := by
  simp only [hostOps1]
  after_results_simp
  clean_types
  pointwise

theorem v28_at (j : Fin 2048) : (StableHlo.after hostOps1 W (Proc.devRef .tc main_v28) : IVec S1x2048 32) (ix2 0 j) = BitVec.ofNat 32 j.val := by
  simp only [hostOps1]
  after_results_simp
  clean_types
  pointwise

theorem c3_eq : (StableHlo.after hostOps1 W (Proc.devRef .tc main_c_3) : IVec S_ 32) = constantI S_ 32 64#32 := by
  simp only [hostOps1]
  after_results_simp

/-- The rounded-down quotient, as the host computes it. -/
theorem v29_eq : (StableHlo.after hostOps1_1 W (Proc.devRef .tc main_v29) : IVec S1x2048 32)
   = let a : IVec S1x2048 32 := W (Proc.devRef .tc main_v28)
     let b : IVec S_ 32 := W (Proc.devRef .tc main_c_3)
     select (andi (cmpi .ne (signi a) (broadcastInDim S1x2048 ![] bcast_S_S1x2048 (signi b))) (cmpi .ne (Host.remsi a (broadcastInDim S1x2048 ![] bcast_S_S1x2048 b)) (broadcastInDim S1x2048 ![] bcast_S_S1x2048 (constantI S_ 32 0#32))))
       (subi (Host.divsi a (broadcastInDim S1x2048 ![] bcast_S_S1x2048 b)) (broadcastInDim S1x2048 ![] bcast_S_S1x2048 (constantI S_ 32 1#32))) (Host.divsi a (broadcastInDim S1x2048 ![] bcast_S_S1x2048 b)) := by
  simp only [hostOps1_1]
  after_results_simp
  rfl

/-- A position's chunk, by the host's rounded-down quotient. -/
theorem host_chunk : ∀ j : Fin 2048,
    Scalar.select
      (IntOp.andi
        (IntOp.cmpi CmpIPredicate.ne
          (if BitVec.ofNat 32 j.val = 0 then (0 : BitVec 32) else if (BitVec.ofNat 32 j.val).msb = true then -1 else 1)
          (if 64#32 = 0 then (0 : BitVec 32) else if (64#32).msb = true then -1 else 1))
        (IntOp.cmpi CmpIPredicate.ne (IntOp.remsi ArithUnit.host (BitVec.ofNat 32 j.val) 64#32) 0#32))
      (IntOp.subi (IntOp.divsi ArithUnit.host (BitVec.ofNat 32 j.val) 64#32) 1#32)
      (IntOp.divsi ArithUnit.host (BitVec.ofNat 32 j.val) 64#32) = BitVec.ofNat 32 (j.val / 64) := by
  decide +kernel

theorem v29_at (hc : W (Proc.devRef .tc main_c_3) = constantI S_ 32 64#32) (j : Fin 2048) (h : (W (Proc.devRef .tc main_v28) : IVec S1x2048 32) (ix2 0 j) = BitVec.ofNat 32 j.val) :
    (StableHlo.after hostOps1_1 W (Proc.devRef .tc main_v29) : IVec S1x2048 32) (ix2 0 j) = BitVec.ofNat 32 (j.val / 64) := by
  rw [v29_eq]
  clean_types
  pointwise
  rw [h, hc]
  clean_types
  pointwise
  exact host_chunk j

theorem v34_at (c : Fin 32) (j : Fin 2048) (h29 : (W (Proc.devRef .tc main_v29) : IVec S1x2048 32) (ix2 0 j) = BitVec.ofNat 32 (j.val / 64))
    (h27 : (W (Proc.devRef .tc main_v27) : IVec S32 32) (ix1 c) = BitVec.ofNat 32 c.val) :
    (StableHlo.after hostOps1_2 W (Proc.devRef .tc main_v34) : FVec Ideal S32x2048 .f32) (ix2 c j) = (if c = chunk j then 1 else 0 : EReal) := by
  simp only [hostOps1_2]
  after_results_simp
  clean_types
  pointwise
  rw [h29, h27]
  have e : IntOp.cmpi CmpIPredicate.eq (BitVec.ofNat 32 (j.val / 64)) (BitVec.ofNat 32 c.val) = BitVec.ofBool (decide (c = chunk j)) := by
    word_cmp
    refine congrArg BitVec.ofBool (decide_eq_decide.mpr ⟨fun h => Fin.ext ?_, fun h => ?_⟩)
    · exact h.symm
    · rw [h]; rfl
  rw [e]
  exact bit_word _

theorem v53_at (h : Fin 4) (r : Fin 256) (x : Fin 768) :
    (StableHlo.after hostOps1_2 W (Proc.devRef .tc main_v53) : FVec Ideal S1024x768 .f32) (ix2 (row4 h r) x) = (if r.val < x.val ∧ x.val ≤ r.val + 512 then 1 else 0 : EReal) := by
  simp only [hostOps1_2]
  after_results_simp
  clean_types
  pointwise
  have e0 : (row4 h r).val % 256 = r.val := by unfold row4; simp only; omega
  rw [e0]
  have e : IntOp.andi (IntOp.cmpi CmpIPredicate.sgt (BitVec.ofNat 32 x.val) (BitVec.ofNat 32 r.val)) (IntOp.cmpi CmpIPredicate.sle (BitVec.ofNat 32 x.val) (IntOp.addi (BitVec.ofNat 32 r.val) 512#32))
      = BitVec.ofBool (decide (r.val < x.val ∧ x.val ≤ r.val + 512)) := by
    have e1 : IntOp.addi (BitVec.ofNat 32 r.val) 512#32 = BitVec.ofNat 32 (r.val + 512) := (BitVec.ofNat_add r.val 512).symm
    have e2 : IntOp.cmpi CmpIPredicate.sle (BitVec.ofNat 32 x.val) (BitVec.ofNat 32 (r.val + 512)) = BitVec.ofBool (decide (x.val ≤ r.val + 512)) := by word_cmp
    have e3 : IntOp.cmpi CmpIPredicate.sgt (BitVec.ofNat 32 x.val) (BitVec.ofNat 32 r.val) = BitVec.ofBool (decide (r.val < x.val)) := by word_cmp
    rw [e1, e2, e3, Bool.decide_and]
    cases decide (r.val < x.val) <;> cases decide (x.val ≤ r.val + 512) <;> rfl
  rw [e]
  exact bit_word _

/-! ## After the second call -/

theorem v55_at (s : Fin 2048) (n : Fin 1024) : (StableHlo.after hostOps2 W (Proc.devRef .tc main_v55) : FVec Ideal S1x2048x1024 .f32) (ix3 0 s n) = W (Proc.devRef .tc main_v54) (ix2 s n) := by
  simp only [hostOps2]
  after_results_simp
  clean_types
  pointwise

end Stretches
end Cert.KernelIdeal.Own

end
-- ==== Proof.Ki.Result.lean ====
/- The whole program's result, one formula in its arguments. -/
module

public import proofs.«01_k».proof.Proof.Ki.Host

@[expose] public section

set_option maxRecDepth 16384

noncomputable section

namespace Cert.KernelIdeal.Own

open Cert.KernelIdeal.Gen
open Idealize.ShloMosaic Idealize.ShloMosaic.TcCoe Idealize.ShloMosaic.Tactic
open Cert.Attn Cert.Words

variable (m : (ℓ : Loc nD τ sig) → Buf (Elt Ideal) ℓ) (ρ : Dev nD → PrngReg) (c : Dev nD)

/-- The layer's inputs, from the program's arguments. -/
abbrev lay : Ins := layer (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg8)) (m ((c : Thread nD τ).loc main_arg9))

/-- An argument, as the first call finds it. -/
theorem arg_V1 (a : Ref sig .tc) (ha : a ∈ argRefs) : V1 m ρ c a = m ((c : Thread nD τ).loc a) := W1_args m ρ c a ha

/-- The first call computes from the layer's inputs. -/
theorem insOf_V1 : insOf (V1 m ρ) c = lay m c := by
  unfold insOf lay layer
  rw [Ins.mk.injEq]
  refine ⟨?_, ?_, ?_, ?_, ?_, ?_, ?_, ?_, ?_, ?_, ?_⟩
  · exact funext fun s => funext fun k => v0_at (W0 m ρ c) s k
  · rw [arg_V1 m ρ c main_arg1 (by decide)]
  · rw [arg_V1 m ρ c main_arg2 (by decide)]
  · rw [arg_V1 m ρ c main_arg3 (by decide)]
  · rw [arg_V1 m ρ c main_arg4 (by decide)]
  · rw [arg_V1 m ρ c main_arg5 (by decide)]
  · rw [arg_V1 m ρ c main_arg6 (by decide)]
  · exact funext fun s => funext fun x => v21_at (W0 m ρ c) s x
  · exact funext fun s => funext fun x => v22_at (W0 m ρ c) s x
  · exact funext fun x => v23_at (W0 m ρ c) x
  · exact funext fun x => v24_at (W0 m ρ c) x

/-- The array of projections, as the second call finds it. -/
theorem planes_V5 : V5 m ρ c main_v25 = fun i : S24x2048x64.Idx => (lay m c).plane (i 0) (i 1) (i 2) := by
  rw [← insOf_V1 m ρ c, ← proj_array (V1 m ρ) c]
  exact (W5_of m ρ c main_v25 (by decide)).trans ((W4_of m ρ c main_v25 (by decide)).trans ((W3_of m ρ c main_v25 (by decide)).trans (W2_arr m ρ c 11)))

theorem chunks_V5 (k : Fin 32) (j : Fin 2048) : V5 m ρ c main_v34 (ix2 k j) = (if k = chunk j then 1 else 0 : EReal) := by
  refine v34_at (W4 m ρ c) k j (v29_at (W3 m ρ c) (c3_eq (W2 m ρ c)) j (v28_at (W2 m ρ c) j)) ?_
  rw [W4_of m ρ c main_v27 (by decide)]
  exact v27_at (W2 m ρ c) k

theorem factors_V5 (h : Fin 4) (r : Fin 256) (x : Fin 768) : V5 m ρ c main_v53 (ix2 (row4 h r) x) = (if r.val < x.val ∧ x.val ≤ r.val + 512 then 1 else 0 : EReal) :=
  v53_at (W4 m ρ c) h r x

/-- The second call's arrays are what its value needs. -/
theorem arrays_V5 (H : (lay m c).Real) : Arrays (V5 m ρ c main_v25) (V5 m ρ c main_v34) (V5 m ρ c main_v53) where
  chunks k j := chunks_V5 m ρ c k j
  factors h r x := factors_V5 m ρ c h r x
  realQ h s x := by
    rw [planes_V5]
    show IsReal ((lay m c).plane (qp h) s x)
    rw [Ins.plane_qp]; exact Ins.q_real H h s x
  realK g s x := by
    rw [planes_V5]
    show IsReal ((lay m c).plane (kp g) s x)
    rw [Ins.plane_kp]; exact Ins.k_real H g s x

theorem result_eq (H : (lay m c).Real) : W7 m ρ c (Proc.devRef .tc main_v55) = resultOf (lay m c) (m ((c : Thread nD τ).loc main_arg7)) := by
  refine funext fun i : S1x2048x1024.Idx => ?_
  have e : i = ix3 0 (i 1) (i 2) := by
    refine (eq_ix3 i).trans ?_
    congr 1
    exact Fin.ext (by have h : (i 0).val < 1 := (i 0).isLt; show (i 0).val = 0; omega)
  rw [e]
  refine (v55_at (W6 m ρ c) (i 1) (i 2)).trans ?_
  have e6 : W6 m ρ c (Proc.devRef .tc main_v54) = (dat1 (V5 m ρ) c).arrAt 4 cfg1.N := W6_arr m ρ c 4
  have eo : V5 m ρ c main_arg7 = m ((c : Thread nD τ).loc main_arg7) := W5_args m ρ c main_arg7 (by decide)
  have eq : qX (V5 m ρ c main_v25) = (lay m c).q := by
    funext h s x; rw [planes_V5]; show (lay m c).plane (qp h) s x = _; rw [Ins.plane_qp]
  have ek : kX (V5 m ρ c main_v25) = (lay m c).k := by
    funext h s x; rw [planes_V5]; show (lay m c).plane (kp h) s x = _; rw [Ins.plane_kp]
  have ev : vX (V5 m ρ c main_v25) = (lay m c).v := by
    funext h s x; rw [planes_V5]; show (lay m c).plane (vp h) s x = _; rw [Ins.plane_vp]
  rw [e6, attn_array (V5 m ρ) c (arrays_V5 m ρ c H), eo, eq, ek, ev]
  rfl

end Cert.KernelIdeal.Own

end
-- ==== Proof.Ref.Heads.lean ====
/- The reference's queries, keys and values are the layer's. -/
module

public import proofs.«01_k».proof.Proof.Gen.ReferenceIdeal.Run
public import proofs.«01_k».proof.Proof.Math.Layer
public import Idealize.ShloMosaic.Lib.Pointwise
public import Idealize.ShloMosaic.Lib.Tactic.CleanTypes

@[expose] public section

set_option maxRecDepth 16384

noncomputable section

namespace Cert.ReferenceIdeal.Own

open Cert.ReferenceIdeal.Value
open Idealize.ShloMosaic Idealize.ShloMosaic.TcCoe Idealize.ShloMosaic.Tactic
open Cert.Attn Cert.Words

variable (V0 : Valuation τ sig (Elt Ideal))

/-- The layer's inputs, from the reference's arguments. -/
abbrev lay : Ins := layer (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5)) (V0 (Proc.devRef .tc main_arg6))
  (V0 (Proc.devRef .tc main_arg8)) (V0 (Proc.devRef .tc main_arg9))

/-- The projections of the queries. -/
theorem v24_at (h : Fin 16) (s : Fin 2048) (x : Fin 64) : (res_main_v24 V0 : FVec Ideal S1x16x2048x64 .f32) (ix4 0 h s x) = lin ((lay V0).a s) ((lay V0).rowQ h x) := by
  unfold res_main_v24 lin Ins.rowQ
  clean_types
  pointwise
  by_cases c : h.val < 12
  · rw [dif_pos c]; simp only [dif_pos c]
    pointwise
    refine Finset.sum_congr rfl fun k _ => congrArg ((lay V0).a s k * ·) (congrArg (V0 (Proc.devRef .tc main_arg1)) ?_)
    exact congrArg (fun n => ix2 n k) (Fin.ext (by show h.val * 64 + x.val = 64 * h.val + x.val; omega))
  · rw [dif_neg c]; simp only [dif_neg c]
    pointwise
    refine Finset.sum_congr rfl fun k _ => congrArg ((lay V0).a s k * ·) (congrArg (V0 (Proc.devRef .tc main_arg4)) ?_)
    exact congrArg (fun n => ix2 n k) (Fin.ext (by show (h.val - 12) * 64 + x.val = 64 * (h.val - 12) + x.val; omega))

/-- The projections of the keys. -/
theorem v25_at (g : Fin 4) (s : Fin 2048) (x : Fin 64) : (res_main_v25 V0 : FVec Ideal S1x4x2048x64 .f32) (ix4 0 g s x) = lin ((lay V0).a s) ((lay V0).rowK g x) := by
  unfold res_main_v25 lin Ins.rowK
  clean_types
  pointwise
  by_cases c : g.val < 3
  · rw [dif_pos c]; simp only [dif_pos c]
    pointwise
    refine Finset.sum_congr rfl fun k _ => congrArg ((lay V0).a s k * ·) (congrArg (V0 (Proc.devRef .tc main_arg2)) ?_)
    exact congrArg (fun n => ix2 n k) (Fin.ext (by show g.val * 64 + x.val = 64 * g.val + x.val; omega))
  · rw [dif_neg c]; simp only [dif_neg c]
    pointwise
    rfl

/-- Scaled by their root mean squares. -/
theorem v38_at (h : Fin 16) (s : Fin 2048) (x : Fin 64) : (res_main_v38 V0 : FVec Ideal S1x16x2048x64 .f32) (ix4 0 h s x)
    = normed (fun t => lin ((lay V0).a s) ((lay V0).rowQ h t)) ((lay V0).qn) x := by
  unfold res_main_v38 normed
  clean_types
  pointwise
  simp only [v24_at]
  rfl

theorem v51_at (g : Fin 4) (s : Fin 2048) (x : Fin 64) : (res_main_v51 V0 : FVec Ideal S1x4x2048x64 .f32) (ix4 0 g s x)
    = normed (fun t => lin ((lay V0).a s) ((lay V0).rowK g t)) ((lay V0).kn) x := by
  unfold res_main_v51 normed
  clean_types
  pointwise
  simp only [v25_at]
  rfl

/-- The cosines and sines of the angles. -/
theorem v73_at (s : Fin 2048) (x : Fin 64) : (res_main_v73 V0 : FVec Ideal S1x1x2048x64 .f32) (ix4 0 0 s x) = (lay V0).cs s x := by
  unfold res_main_v73 res_main_v71 res_main_v70
  clean_types
  pointwise
  refine congrArg Ideal.cos ?_
  unfold angleAt angle
  by_cases h : x.val < 32
  · rw [dif_pos h, if_pos h]
  · rw [dif_neg h, if_neg h]

theorem v75_at (s : Fin 2048) (x : Fin 64) : (res_main_v75 V0 : FVec Ideal S1x1x2048x64 .f32) (ix4 0 0 s x) = (lay V0).sn s x := by
  unfold res_main_v75 res_main_v71 res_main_v70
  clean_types
  pointwise
  refine congrArg Ideal.sin ?_
  unfold angleAt angle
  by_cases h : x.val < 32
  · rw [dif_pos h, if_pos h]
  · rw [dif_neg h, if_neg h]

/-- The queries. -/
theorem v84_at (h : Fin 16) (s : Fin 2048) (x : Fin 64) : (res_main_v84 V0 : FVec Ideal S1x16x2048x64 .f32) (ix4 0 h s x) = (lay V0).q h s x := by
  unfold res_main_v84 Ins.q rope
  clean_types
  pointwise
  rw [v73_at, v75_at]
  simp only [v38_at]

/-- The keys. -/
theorem v93_at (g : Fin 4) (s : Fin 2048) (x : Fin 64) : (res_main_v93 V0 : FVec Ideal S1x4x2048x64 .f32) (ix4 0 g s x) = (lay V0).k g s x := by
  unfold res_main_v93 Ins.k rope
  clean_types
  pointwise
  rw [v73_at, v75_at]
  simp only [v51_at]

end Cert.ReferenceIdeal.Own

end
-- ==== Proof.Ref.Scores.lean ====
/- The reference's masked scores. -/
module

public import proofs.«01_k».proof.Proof.Ref.Heads

@[expose] public section

set_option maxRecDepth 16384

noncomputable section

namespace Cert.ReferenceIdeal.Own

open Cert.ReferenceIdeal.Value
open Idealize.ShloMosaic Idealize.ShloMosaic.TcCoe Idealize.ShloMosaic.Tactic
open Cert.Attn Cert.Words Cert.Pick

variable (V0 : Valuation τ sig (Elt Ideal))

/-- A choice by a decided bit. -/
theorem select_bit {α : Type} (p : Prop) [Decidable p] (a b : α) : Scalar.select (BitVec.ofBool (decide p)) a b = if p then a else b := by
  by_cases h : p
  · rw [if_pos h, decide_eq_true h]; rfl
  · rw [if_neg h, decide_eq_false h]; rfl

/-- The number of chunks wholly before a row's window, as the reference computes it. -/
theorem chunks_before : ∀ s : Fin 2048, ∀ y : BitVec 32, y = IntOp.addi (IntOp.subi (BitVec.ofNat 32 s.val) 512#32) 1#32 →
    (Scalar.select
        (IntOp.andi
          (IntOp.cmpi CmpIPredicate.ne
            (if y = 0 then (0 : BitVec 32) else if y.msb = true then -1 else 1)
            (if 64#32 = 0 then (0 : BitVec 32) else if BitVec.msb 64#32 = true then -1 else 1))
          (IntOp.cmpi CmpIPredicate.ne (IntOp.remsi ArithUnit.host y 64#32) 0#32))
        (IntOp.subi (IntOp.divsi ArithUnit.host y 64#32) 1#32)
        (IntOp.divsi ArithUnit.host y 64#32)).toInt = ((s.val : ℤ) - 511) / 64 := by
  have h : ∀ s : Fin 2048, (fun y : BitVec 32 => (Scalar.select
        (IntOp.andi
          (IntOp.cmpi CmpIPredicate.ne
            (if y = 0 then (0 : BitVec 32) else if y.msb = true then -1 else 1)
            (if 64#32 = 0 then (0 : BitVec 32) else if BitVec.msb 64#32 = true then -1 else 1))
          (IntOp.cmpi CmpIPredicate.ne (IntOp.remsi ArithUnit.host y 64#32) 0#32))
        (IntOp.subi (IntOp.divsi ArithUnit.host y 64#32) 1#32)
        (IntOp.divsi ArithUnit.host y 64#32)).toInt = ((s.val : ℤ) - 511) / 64) (IntOp.addi (IntOp.subi (BitVec.ofNat 32 s.val) 512#32) 1#32) := by
    decide +kernel
  rintro s y rfl
  exact h s

/-- The chunks a row may take. -/
theorem v158_at (s : Fin 2048) (c : Fin 32) : (res_main_v158 V0 : IVec S2048x32 1) (ix2 s c) = BitVec.ofBool (decide (old s.val c.val)) := by
  unfold res_main_v158 res_main_v152 res_main_call1_v2 res_main_call1_v0 res_main_v152 res_main_v94
  clean_types
  simp only [id_eq]
  pointwise
  show BitVec.ofBool (BitVec.slt _ _) = _
  rw [BitVec.slt, WordCmp.toInt_ofNat_of_lt (by omega)]
  refine (congrArg (fun z : ℤ => BitVec.ofBool (decide ((c.val : ℤ) < z))) (chunks_before s _ rfl)).trans ?_
  refine congrArg BitVec.ofBool (decide_eq_decide.mpr ?_)
  unfold old
  omega

/-- The scores of the first twelve heads, minus infinity outside the window. -/
theorem v119_at (H : (lay V0).Real) (h : Fin 12) (s j : Fin 2048) : (res_main_v119 V0 : FVec Ideal S1x12x2048x2048 .f32) (ix4 0 h s j)
    = if j ∈ win s.val then (score ((lay V0).q ⟨h.val, by omega⟩ s) ((lay V0).k ⟨h.val / 4, by omega⟩) j : EReal) else ⊥ := by
  unfold res_main_v119 res_main_v94 res_main_v95
  clean_types
  simp only [id_eq]
  pointwise
  rw [win_bit s.isLt j.isLt, select_bit, ← coe_score (fun x => Ins.q_real H _ s x) (fun j x => Ins.k_real H _ j x), eighth, minus_inf]
  simp only [v84_at, v93_at, mem_win]

/-- The scores of the last four heads against the chunk means, minus infinity at the chunks the row may not take. -/
theorem v160_at (h : Fin 4) (s : Fin 2048) (c : Fin 32) : (res_main_v160 V0 : FVec Ideal S1x4x2048x32 .f32) (ix4 0 h s c)
    = masked s.val (meanScore ((lay V0).q ⟨12 + h.val, by omega⟩ s) ((lay V0).k 3)) c := by
  unfold res_main_v160 res_main_v132
  clean_types
  simp only [id_eq]
  pointwise
  rw [v158_at, select_bit, eighth, minus_inf, sixtyfour]
  unfold masked meanScore mean inChunk
  simp only [v84_at, v93_at, div_coe _ (by norm_num : (0 : ℝ) < 64)]
  simp only [mul_comm c.val 64, one_div]

/-- The eighth of a row's greatest. -/
theorem topK_at (v : FVec Ideal S1x4x2048x32 .f32) (hf : S1x4x2048x32.Slices (fun _ => 0) S1x4x2048x8) (h : Fin 4) (s : Fin 2048) :
    (Host.topK S1x4x2048x8 3 (FloatOps.cmpfTotal (F := Ideal) (φ := .f32) .gt) v hf).1 (ix4 0 h s 7) = eighthOf fun c => v (ix4 0 h s c) := by
  refine Eq.trans ?_ (eighthOf_eq _ _ (sort_eighth (fun c : Fin 32 => v (ix4 0 h s c)) (by decide)))
  unfold Host.topK Host.sort2
  clean_types
  pointwise
  have hal : ∀ k : Fin 32, (ix4 0 h s 7 : S1x4x2048x32.Idx).along 3 k = ix4 0 h s k := fun k => by
    funext a
    match a with | ⟨0, _⟩ => rfl | ⟨1, _⟩ => rfl | ⟨2, _⟩ => rfl | ⟨3, _⟩ => rfl
  refine congrArg v ((hal _).trans ?_)
  refine congrArg (fun B : Fin 32 → Fin 32 → Bool => (ix4 0 h s (sortedFrom B 7) : S1x4x2048x32.Idx)) (funext fun k => funext fun k' => ?_)
  exact congrArg₂ (fun a b : EReal => FloatOps.cmpfTotal (F := Ideal) (φ := .f32) CmpDirection.gt a b == 1#1) (congrArg v (hal k)) (congrArg v (hal k'))

/-- The bits of a taken chunk and of the window together. -/
theorem or_bits (p q r : Prop) [Decidable p] [Decidable q] [Decidable r] :
    IntOp.ori (IntOp.andi (BitVec.ofBool (decide p)) (BitVec.ofBool (decide q))) (BitVec.ofBool (decide r)) = BitVec.ofBool (decide (p ∧ q ∨ r)) := by
  by_cases hp : p <;> by_cases hq : q <;> by_cases hr : r <;> simp only [hp, hq, hr] <;> rfl

/-- The scores of the last four heads, minus infinity outside the keys they take. -/
theorem v188_at (H : (lay V0).Real) (h : Fin 4) (s j : Fin 2048) : (res_main_v188 V0 : FVec Ideal S1x4x2048x2048 .f32) (ix4 0 h s j)
    = if j ∈ keys s.val (meanScore ((lay V0).q ⟨12 + h.val, by omega⟩ s) ((lay V0).k 3)) then (score ((lay V0).q ⟨12 + h.val, by omega⟩ s) ((lay V0).k 3) j : EReal) else ⊥ := by
  unfold res_main_v188 res_main_v132 res_main_v94 res_main_v95
  clean_types
  simp only [id_eq]
  pointwise
  rw [win_bit s.isLt j.isLt, v158_at, topK_at, ← coe_score (fun x => Ins.q_real H _ s x) (fun j x => Ins.k_real H _ j x), eighth, minus_inf]
  simp only [v160_at, v84_at, v93_at]
  rw [or_bits, select_bit]
  by_cases hk : j ∈ keys s.val (meanScore ((lay V0).q ⟨12 + h.val, by omega⟩ s) ((lay V0).k 3))
  · rw [if_pos hk, if_pos]
    exact (mem_keys.mp hk).symm.imp id mem_win.mp
  · rw [if_neg hk, if_neg]
    exact fun h' => hk (mem_keys.mpr (h'.symm.imp mem_win.mpr id))

end Cert.ReferenceIdeal.Own

end
-- ==== Proof.Ref.Result.lean ====
/- The reference's result, the same formula in its arguments. -/
module

public import proofs.«01_k».proof.Proof.Ref.Scores

@[expose] public section

set_option maxRecDepth 16384

noncomputable section

namespace Cert.ReferenceIdeal.Own

open Cert.ReferenceIdeal Cert.ReferenceIdeal.Facts Cert.ReferenceIdeal.Gen Cert.ReferenceIdeal.Value
open Idealize.ShloMosaic Idealize.ShloMosaic.TcCoe Idealize.ShloMosaic.Tactic
open Cert.Attn Cert.Words

variable (V0 : Valuation τ sig (Elt Ideal))

/-- A row's exponentials, over the row's greatest entry. -/
def over (L : Fin 2048 → EReal) (j : Fin 2048) : EReal := Ideal.exp (L j - Finset.univ.fold max ⊥ L)

/-- The operations of the softmax of the first twelve heads, each at an index. -/
theorem greatest12 (L : FVec Ideal S1x12x2048x2048 .f32) (h : Fin 12) (s : Fin 2048) :
    (Host.reduce FloatOps.maximumf L (constant S_ .f32 0xFF800000#32) reducesTo_S1x12x2048x2048_S1x12x2048_d3 h_S_ : FVec Ideal S1x12x2048 .f32) (ix3 0 h s) = Finset.univ.fold max (Ideal.ofBits .f32 0xFF800000#32 : EReal) (fun k => (L (ix4 0 h s k) : EReal)) := by
  pointwise

theorem atLeast12 (M : FVec Ideal S1x12x2048 .f32) (h : Fin 12) (s : Fin 2048) : (maximumf (broadcastInDim S1x12x2048 ![] bcast_S_S1x12x2048 (constant S_ .f32 0xFF800000#32)) M) (ix3 0 h s) = M (ix3 0 h s) := by
  pointwise
  rw [minus_inf, max_eq_right bot_le]

theorem less12 (L : FVec Ideal S1x12x2048x2048 .f32) (M : FVec Ideal S1x12x2048 .f32) (h : Fin 12) (s j : Fin 2048) :
    (Host.exp (subf L (broadcastInDim S1x12x2048x2048 ![0, 1, 2, 3] bcast_S1x12x2048x1_S1x12x2048x2048_0_1_2_3 (broadcastInDim S1x12x2048x1 ![0, 1, 2] bcast_S1x12x2048_S1x12x2048x1_0_1_2 M))) : FVec Ideal S1x12x2048x2048 .f32) (ix4 0 h s j)
      = Ideal.exp (L (ix4 0 h s j) - M (ix3 0 h s) : EReal) := by
  pointwise

theorem v126_at (h : Fin 12) (s j : Fin 2048) : (res_main_v126 V0 : FVec Ideal S1x12x2048x2048 .f32) (ix4 0 h s j) = over (fun k => (res_main_v119 V0 : FVec Ideal S1x12x2048x2048 .f32) (ix4 0 h s k)) j := by
  unfold res_main_v126
  generalize res_main_v119 V0 = L
  refine (less12 L _ h s j).trans (congrArg Ideal.exp (congrArg₂ (fun a b : EReal => a - b) rfl ?_))
  refine ((atLeast12 _ h s).trans (greatest12 L h s)).trans ?_
  rw [minus_inf]

/-- The quotients against the values. -/
theorem weighted12 (E : FVec Ideal S1x12x2048x2048 .f32) (V : FVec Ideal S1x12x2048x64 .f32) (h : Fin 12) (s : Fin 2048) (d : Fin 64) :
    (Host.dotGeneral dot_S1x12x2048x2048_S1x12x2048x64_S1x12x2048x64_3_2_2_3_01_01 none (Host.divf E (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd E (constant S_ .f32 0x00000000#32) reducesTo_S1x12x2048x2048_S1x12x2048_d3 h_S_)))) V : FVec Ideal S1x12x2048x64 .f32) (ix4 0 h s d)
      = ∑ j, Ideal.div (E (ix4 0 h s j)) (∑ k, (E (ix4 0 h s k) : EReal)) * V (ix4 0 h j d) := by
  pointwise

/-- The operations of the softmax of the last four heads, each at an index. -/
theorem greatest4 (L : FVec Ideal S1x4x2048x2048 .f32) (h : Fin 4) (s : Fin 2048) :
    (Host.reduce FloatOps.maximumf L (constant S_ .f32 0xFF800000#32) reducesTo_S1x4x2048x2048_S1x4x2048_d3 h_S_ : FVec Ideal S1x4x2048 .f32) (ix3 0 h s) = Finset.univ.fold max (Ideal.ofBits .f32 0xFF800000#32 : EReal) (fun k => (L (ix4 0 h s k) : EReal)) := by
  pointwise

theorem atLeast4 (M : FVec Ideal S1x4x2048 .f32) (h : Fin 4) (s : Fin 2048) : (maximumf (broadcastInDim S1x4x2048 ![] bcast_S_S1x4x2048 (constant S_ .f32 0xFF800000#32)) M) (ix3 0 h s) = M (ix3 0 h s) := by
  pointwise
  rw [minus_inf, max_eq_right bot_le]

theorem less4 (L : FVec Ideal S1x4x2048x2048 .f32) (M : FVec Ideal S1x4x2048 .f32) (h : Fin 4) (s j : Fin 2048) :
    (Host.exp (subf L (broadcastInDim S1x4x2048x2048 ![0, 1, 2, 3] bcast_S1x4x2048x1_S1x4x2048x2048_0_1_2_3 (broadcastInDim S1x4x2048x1 ![0, 1, 2] bcast_S1x4x2048_S1x4x2048x1_0_1_2 M))) : FVec Ideal S1x4x2048x2048 .f32) (ix4 0 h s j)
      = Ideal.exp (L (ix4 0 h s j) - M (ix3 0 h s) : EReal) := by
  pointwise

theorem v195_at (h : Fin 4) (s j : Fin 2048) : (res_main_v195 V0 : FVec Ideal S1x4x2048x2048 .f32) (ix4 0 h s j) = over (fun k => (res_main_v188 V0 : FVec Ideal S1x4x2048x2048 .f32) (ix4 0 h s k)) j := by
  unfold res_main_v195
  generalize res_main_v188 V0 = L
  refine (less4 L _ h s j).trans (congrArg Ideal.exp (congrArg₂ (fun a b : EReal => a - b) rfl ?_))
  refine ((atLeast4 _ h s).trans (greatest4 L h s)).trans ?_
  rw [minus_inf]

/-- The quotients against the values. -/
theorem weighted4 (E : FVec Ideal S1x4x2048x2048 .f32) (V : FVec Ideal S1x4x2048x64 .f32) (h : Fin 4) (s : Fin 2048) (d : Fin 64) :
    (Host.dotGeneral dot_S1x4x2048x2048_S1x4x2048x64_S1x4x2048x64_3_2_2_3_01_01 none (Host.divf E (broadcastInDim S1x4x2048x2048 ![0, 1, 2, 3] bcast_S1x4x2048x1_S1x4x2048x2048_0_1_2_3 (broadcastInDim S1x4x2048x1 ![0, 1, 2] bcast_S1x4x2048_S1x4x2048x1_0_1_2 (Host.reduceAdd E (constant S_ .f32 0x00000000#32) reducesTo_S1x4x2048x2048_S1x4x2048_d3 h_S_)))) V : FVec Ideal S1x4x2048x64 .f32) (ix4 0 h s d)
      = ∑ j, Ideal.div (E (ix4 0 h s j)) (∑ k, (E (ix4 0 h s k) : EReal)) * V (ix4 0 h j d) := by
  pointwise

/-- The values of the first twelve heads, four to a group, and of the last four. -/
theorem values12 (X : FVec Ideal S1x2048x1024 .f32) (W : FVec Ideal S192x1024 .f32) (h : Fin 12) (j : Fin 2048) (d : Fin 64) :
    (shapeCast _ (broadcastInDim S1x3x4x2048x64 ![0, 1, 3, 4] bcast_S1x3x2048x64_S1x3x4x2048x64_0_1_3_4 (transpose S1x3x2048x64 [0, 2, 1, 3] (shapeCast _ (Host.dotGeneral dot_S1x2048x1024_S1024x192_S1x2048x192_2_0_01_1_n_n none X (transpose S1024x192 [1, 0] W transposes_S192x1024_S1024x192_1_0)) shapeCasts_S1x2048x192_S1x2048x3x64) transposes_S1x2048x3x64_S1x3x2048x64_0_2_1_3)) shapeCasts_S1x3x4x2048x64_S1x12x2048x64 : FVec Ideal S1x12x2048x64 .f32) (ix4 0 h j d)
      = ∑ k, (X (ix3 0 j k) * W (ix2 ⟨h.val / 4 * 64 + d.val, by omega⟩ k) : EReal) := by
  pointwise

theorem values4 (X : FVec Ideal S1x2048x1024 .f32) (W : FVec Ideal S64x1024 .f32) (h : Fin 4) (j : Fin 2048) (d : Fin 64) :
    (shapeCast _ (broadcastInDim S1x1x4x2048x64 ![0, 1, 3, 4] bcast_S1x1x2048x64_S1x1x4x2048x64_0_1_3_4 (transpose S1x1x2048x64 [0, 2, 1, 3] (shapeCast _ (Host.dotGeneral dot_S1x2048x1024_S1024x64_S1x2048x64_2_0_01_1_n_n none X (transpose S1024x64 [1, 0] W transposes_S64x1024_S1024x64_1_0)) shapeCasts_S1x2048x64_S1x2048x1x64) transposes_S1x2048x1x64_S1x1x2048x64_0_2_1_3)) shapeCasts_S1x1x4x2048x64_S1x4x2048x64 : FVec Ideal S1x4x2048x64 .f32) (ix4 0 h j d)
      = ∑ k, (X (ix3 0 j k) * W (ix2 d k) : EReal) := by
  pointwise

/-- The heads side by side, against the output weights. -/
theorem out_at (A : FVec Ideal S1x12x2048x64 .f32) (B : FVec Ideal S1x4x2048x64 .f32) (W : FVec Ideal S1024x1024 .f32) (s : Fin 2048) (n : Fin 1024) :
    (Host.dotGeneral dot_S1x2048x1024_S1024x1024_S1x2048x1024_2_0_01_1_n_n none (shapeCast _ (transpose S1x2048x16x64 [0, 2, 1, 3] (concatenate S1x16x2048x64 1 [⟨S1x12x2048x64, A⟩, ⟨S1x4x2048x64, B⟩] concatenates_S1x12x2048x64_S1x4x2048x64_S1x16x2048x64_d1) transposes_S1x16x2048x64_S1x2048x16x64_0_2_1_3) shapeCasts_S1x2048x16x64_S1x2048x1024) (transpose S1024x1024 [1, 0] W transposes_S1024x1024_S1024x1024_1_0) : FVec Ideal S1x2048x1024 .f32) (ix3 0 s n)
      = ∑ x : Fin 1024, ((if c : x.val / 64 < 12 then A (ix4 0 ⟨x.val / 64, c⟩ s ⟨x.val % 64, by omega⟩) else B (ix4 0 ⟨x.val / 64 - 12, by omega⟩ s ⟨x.val % 64, by omega⟩)) * W (ix2 n x) : EReal) := by
  pointwise

/-- The first twelve heads. -/
theorem std_head (H : (lay V0).Real) (h : Fin 12) (s : Fin 2048) (v : Fin 2048 → EReal) :
    ∑ j, Ideal.div ((res_main_v126 V0 : FVec Ideal S1x12x2048x2048 .f32) (ix4 0 h s j)) (∑ k, (res_main_v126 V0 : FVec Ideal S1x12x2048x2048 .f32) (ix4 0 h s k)) * v j
      = attn (win s.val) (score ((lay V0).q ⟨h.val, by omega⟩ s) ((lay V0).k ⟨h.val / 4, by omega⟩)) v := by
  simp only [v126_at]
  exact attn_softmax _ (win_nonempty s) _ _ (fun j => v119_at V0 H h s j) v

/-- The last four. -/
theorem hsa_head (H : (lay V0).Real) (h : Fin 4) (s : Fin 2048) (v : Fin 2048 → EReal) :
    ∑ j, Ideal.div ((res_main_v195 V0 : FVec Ideal S1x4x2048x2048 .f32) (ix4 0 h s j)) (∑ k, (res_main_v195 V0 : FVec Ideal S1x4x2048x2048 .f32) (ix4 0 h s k)) * v j
      = attn (keys s.val (meanScore ((lay V0).q ⟨12 + h.val, by omega⟩ s) ((lay V0).k 3))) (score ((lay V0).q ⟨12 + h.val, by omega⟩ s) ((lay V0).k 3)) v := by
  simp only [v195_at]
  exact attn_softmax _ (keys_nonempty s _) _ _ (fun j => v188_at V0 H h s j) v

/-- The reference's result. -/
theorem result_eq (H : (lay V0).Real) : (val4 V0 (Proc.devRef .tc main_v205) : FVec Ideal S1x2048x1024 .f32) = resultOf (lay V0) (V0 (Proc.devRef .tc main_arg7)) := by
  refine funext fun i : S1x2048x1024.Idx => ?_
  obtain ⟨s, n, rfl⟩ : ∃ (s : Fin 2048) (n : Fin 1024), i = ix3 0 s n := by
    refine ⟨i 1, i 2, (eq_ix3 i).trans ?_⟩
    congr 1
    exact Fin.ext (by have h : (i 0).val < 1 := (i 0).isLt; show (i 0).val = 0; omega)
  have A := std_head V0 H
  have B := hsa_head V0 H
  rw [val4_main_v205]
  generalize res_main_v126 V0 = E₁ at A ⊢
  generalize res_main_v195 V0 = E₂ at B ⊢
  refine (out_at _ _ _ s n).trans ?_
  show _ = ∑ x : Fin 1024, headVal (lay V0).q (lay V0).k (lay V0).v s ⟨x.val / 64, by omega⟩ ⟨x.val % 64, by omega⟩ * (V0 (Proc.devRef .tc main_arg7) : FVec Ideal S1024x1024 .f32) (ix2 n x)
  refine Finset.sum_congr rfl fun x _ => congrArg (fun z : EReal => z * (V0 (Proc.devRef .tc main_arg7) : FVec Ideal S1024x1024 .f32) (ix2 n x)) ?_
  unfold headVal
  by_cases c : x.val / 64 < 12
  · rw [dif_pos c, if_pos c]
    refine (weighted12 E₁ _ ⟨x.val / 64, c⟩ s ⟨x.val % 64, by omega⟩).trans (Eq.trans ?_ (A ⟨x.val / 64, c⟩ s fun j => (lay V0).v ⟨x.val / 64 / 4, by omega⟩ j ⟨x.val % 64, by omega⟩))
    refine Finset.sum_congr rfl fun j _ => congrArg (fun z : EReal => Ideal.div (E₁ (ix4 0 ⟨x.val / 64, c⟩ s j)) (∑ k, (E₁ (ix4 0 ⟨x.val / 64, c⟩ s k) : EReal)) * z) ((values12 _ _ ⟨x.val / 64, c⟩ j ⟨x.val % 64, by omega⟩).trans ?_)
    have r : (lay V0).rowV ⟨x.val / 64 / 4, by omega⟩ ⟨x.val % 64, by omega⟩ = (lay V0).wv ⟨64 * (x.val / 64 / 4) + x.val % 64, by omega⟩ := dif_pos (show x.val / 64 / 4 < 3 by omega)
    refine Eq.trans ?_ (congrArg (lin ((lay V0).a j)) r.symm)
    refine Finset.sum_congr rfl fun k _ => congrArg ((lay V0).a j k * ·) (congrArg (V0 (Proc.devRef .tc main_arg3) : FVec Ideal S192x1024 .f32) (congrArg (fun z => ix2 z k) (Fin.ext ?_)))
    show x.val / 64 / 4 * 64 + x.val % 64 = 64 * (x.val / 64 / 4) + x.val % 64
    omega
  · have e : (⟨12 + (x.val / 64 - 12), by omega⟩ : Fin 16) = ⟨x.val / 64, by omega⟩ := Fin.ext (by show 12 + (x.val / 64 - 12) = x.val / 64; omega)
    have g : grp ⟨x.val / 64, by omega⟩ = 3 := Fin.ext (by show x.val / 64 / 4 = 3; omega)
    rw [dif_neg c, if_neg c, g, ← e]
    refine (weighted4 E₂ _ ⟨x.val / 64 - 12, by omega⟩ s ⟨x.val % 64, by omega⟩).trans (Eq.trans ?_ (B ⟨x.val / 64 - 12, by omega⟩ s fun j => (lay V0).v 3 j ⟨x.val % 64, by omega⟩))
    refine Finset.sum_congr rfl fun j _ => congrArg (fun z : EReal => Ideal.div (E₂ (ix4 0 ⟨x.val / 64 - 12, by omega⟩ s j)) (∑ k, (E₂ (ix4 0 ⟨x.val / 64 - 12, by omega⟩ s k) : EReal)) * z) ((values4 _ _ ⟨x.val / 64 - 12, by omega⟩ j ⟨x.val % 64, by omega⟩).trans ?_)
    have r : (lay V0).rowV 3 ⟨x.val % 64, by omega⟩ = (lay V0).uv ⟨x.val % 64, by omega⟩ := dif_neg (show ¬ (3 : Fin 4).val < 3 by decide)
    exact congrArg (lin ((lay V0).a j)) r.symm

end Cert.ReferenceIdeal.Own

end
-- ==== Proof.Math.Finite.lean ====
/- What the precondition says: the arguments it names hold real numbers. -/
module

public import proofs.«01_k».proof.Pre_finite
public import proofs.«01_k».proof.Proof.Math.Words
public import proofs.«01_k».proof.Proof.Math.Soft
public import Idealize.ShloMosaic.Lib.ReduceAll

@[expose] public section

set_option maxRecDepth 16384

noncomputable section

namespace Cert.Pre_finite.Own

open Cert.Pre_finite Idealize.ShloMosaic Cert.Attn Cert.Words

/-- The shapes of the precondition's operations fit. -/
theorem facts : Facts where
  bcast_S_S1x2048x1024 := by decide
  reducesTo_S1x2048x1024_S_d0_1_2 := by decide
  h_S_ := by decide
  bcast_S_S768x1024 := by decide
  reducesTo_S768x1024_S_d0_1 := by decide
  bcast_S_S192x1024 := by decide
  reducesTo_S192x1024_S_d0_1 := by decide
  bcast_S_S256x1024 := by decide
  reducesTo_S256x1024_S_d0_1 := by decide
  bcast_S_S64x1024 := by decide
  reducesTo_S64x1024_S_d0_1 := by decide
  bcast_S_S64 := by decide
  reducesTo_S64_S_d0 := by decide

/-- A value below infinity in size is a real number. -/
theorem real_of_lt (x : EReal) (h : Ideal.cmp .olt (max x (-x)) ⊤ = 1#1) : IsReal x := by
  induction x with
  | coe r => exact ⟨r, rfl⟩
  | top => exact absurd h (by simp [Ideal.cmp])
  | bot => exact absurd h (by simp [Ideal.cmp])

/-- An array whose every entry is below infinity in size. -/
theorem real_of_all {s : Shape} {axes : List (Fin s.rank)} (x : FVec Ideal s .f32) (hb : S_.BroadcastsInDim s ![]) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) : IsReal (x i) := by
  have : Subsingleton S_.Idx := ⟨fun a b => funext fun k => k.elim0⟩
  have h : Ideal.cmp .olt (max (x i : EReal) (-(x i : EReal))) (Ideal.ofBits .f32 0x7F800000#32) = 1#1 := Host.reduce_andi_all _ _ hr hu j e i
  rw [plus_inf] at h
  exact real_of_lt _ h

/-- The precondition's seven conjuncts. -/
theorem real_of_pre [Facts] (a0 : FVec Ideal S1x2048x1024 .f32) (a1 : FVec Ideal S768x1024 .f32) (a2 a3 : FVec Ideal S192x1024 .f32) (a4 : FVec Ideal S256x1024 .f32)
    (a5 a6 : FVec Ideal S64x1024 .f32) (a7 : FVec Ideal S1024x1024 .f32) (a8 a9 : FVec Ideal S64 .f32) (e : fn a0 a1 a2 a3 a4 a5 a6 a7 a8 a9 = fun _ => 1#1) :
    (∀ i, IsReal (a0 i)) ∧ (∀ i, IsReal (a1 i)) ∧ (∀ i, IsReal (a2 i)) ∧ (∀ i, IsReal (a4 i)) ∧ (∀ i, IsReal (a5 i)) ∧ (∀ i, IsReal (a8 i)) ∧ ∀ i, IsReal (a9 i) := by
  have h := congrFun e (fun k => k.elim0)
  dsimp only [fn, fn_part1] at h
  replace h := IntOp.andi_eq_one.1 h
  have h9 := real_of_all a9 _ _ _ _ h.2
  replace h := IntOp.andi_eq_one.1 h.1
  have h8 := real_of_all a8 _ _ _ _ h.2
  replace h := IntOp.andi_eq_one.1 h.1
  have h5 := real_of_all a5 _ _ _ _ h.2
  replace h := IntOp.andi_eq_one.1 h.1
  have h4 := real_of_all a4 _ _ _ _ h.2
  replace h := IntOp.andi_eq_one.1 h.1
  have h2 := real_of_all a2 _ _ _ _ h.2
  replace h := IntOp.andi_eq_one.1 h.1
  exact ⟨real_of_all a0 _ _ _ _ h.1, real_of_all a1 _ _ _ _ h.2, h2, h4, h5, h8, h9⟩

end Cert.Pre_finite.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ki.Run
public import proofs.«01_k».proof.Proof.Ki.Result
public import proofs.«01_k».proof.Proof.Kb.Run
public import proofs.«01_k».proof.Proof.Ref.Result
public import proofs.«01_k».proof.Proof.Math.Finite
public import Idealize.ShloMosaic.Adequacy
public import Idealize.ShloMosaic.Init

@[expose] public section

noncomputable section

namespace Cert.Proof

open Idealize.ShloMosaic Idealize.SL.Sem Cert.Kernel

/-- The kernel's run leaves its arguments as they were and every counter at zero. -/
theorem frame_p : Cert.quiescent_Kernel := fun m ρ _ => Cert.Kernel.Own.frame m ρ

/-- The same of the kernel read over exact arithmetic. -/
theorem frame_pi : Cert.quiescent_KernelIdeal := fun m ρ _ => Cert.KernelIdeal.Own.frame m ρ

/-- The same of the reference: it is host code that writes no argument and declares no counter. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- The mask constant is the only thing the exact reading changes. -/
theorem preserves : Cert.preserves_Kernel_KernelIdeal :=
  IdealRules.named_const.statement Cert.KernelIdeal.κ "mask" .f32 0xCE6E6B28#32 ⊥ rfl

/-- The layer's inputs are real numbers under the precondition. -/
theorem real_layer (m : (ℓ : Loc Cert.KernelIdeal.nD Cert.KernelIdeal.τ Cert.KernelIdeal.sig) → Buf (Elt Ideal) ℓ) (h : Pre_KernelIdeal_finite (hPre_finite := Cert.Pre_finite.Own.facts) m)
    (c : Dev Cert.KernelIdeal.nD) : (Cert.KernelIdeal.Own.lay m c).Real := by
  obtain ⟨h0, h1, h2, h4, h5, h8, h9⟩ := @Cert.Pre_finite.Own.real_of_pre Cert.Pre_finite.Own.facts _ _ _ _ _ _ _ _ _ _ (h c)
  exact Cert.Attn.layer_real _ _ _ _ _ _ _ _ _ h0 h1 h2 h4 h5 h8 h9

/-- From the same real arguments the kernel, read over exact arithmetic, and the reference return the same array. -/
theorem algebraic : Cert.algebraic_KernelIdeal_ReferenceIdeal_pre_finite (hPre_finite := Cert.Pre_finite.Own.facts) := by
  intro m g m' g' hp ha
  refine ⟨fun c => Cert.Attn.resultOf (Cert.KernelIdeal.Own.lay m c) (m ((c.tc : Thread Cert.KernelIdeal.nD Cert.KernelIdeal.τ).loc Cert.KernelIdeal.main_arg7)), ?_, ?_⟩
  · refine (θ_run Cert.KernelIdeal.defs _ _).mono (fun r h c => ⟨?_, (h c).2⟩) (Cert.KernelIdeal.Own.run_val m g)
    exact (h c).1.trans (Cert.KernelIdeal.Own.result_eq m g c (real_layer m hp c))
  · refine (θ_run Cert.ReferenceIdeal.defs _ _).mono (fun r h c => ⟨?_, (h c).2⟩) (Cert.ReferenceIdeal.Value.run m' g')
    obtain ⟨a0, a1, a2, a3, a4, a5, a6, a7, a8, a9⟩ := ha c
    have e : Cert.ReferenceIdeal.Own.lay (StableHlo.launchContents m' c) = Cert.KernelIdeal.Own.lay m c := by
      show Cert.Attn.layer (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)) = _
      rw [a0, a1, a2, a3, a4, a5, a6, a8, a9]
    refine (h c).1.trans ((Cert.ReferenceIdeal.Value.val4_main_v205 (StableHlo.launchContents m' c)).symm.trans ?_)
    refine (Cert.ReferenceIdeal.Own.result_eq (StableHlo.launchContents m' c) (e ▸ real_layer m hp c)).trans ?_
    rw [e]
    exact congrArg (Cert.Attn.resultOf (Cert.KernelIdeal.Own.lay m c)) a7

theorem claim : Cert.Claim :=
  ⟨Cert.Kernel.Gen.facts, Cert.KernelIdeal.Gen.facts, Cert.ReferenceIdeal.Gen.facts, Cert.Pre_finite.Own.facts,
    frame_p, frame_pi, fun m g _ => frame_pi m g trivial, frame_ri, fun m g _ => frame_ri m g trivial, preserves, algebraic⟩

end Cert.Proof

end
